-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "inv_two_pi" .f32 0x3E22F983#32 ((2097152 / 13176795 : ℝ) : EReal)

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S2097152x3 : Shape := ⟨2, ![2097152, 3]⟩
abbrev S2097152 : Shape := ⟨1, ![2097152]⟩
abbrev S100x1 : Shape := ⟨2, ![100, 1]⟩
abbrev S_ : Shape := ⟨0, ![]⟩

class Facts : Prop where
  bcast_S_S2097152 : S_.BroadcastsInDim S2097152 (![] : Fin 0 → Fin S2097152.rank)
  reducesTo_S2097152_S_d0 : S2097152.ReducesTo [0] S_
  h_S_ : 0 < S_.numel

variable [Facts]

def fn {F : FTy → Type} [FloatOps F] (main_arg0 : FVec F S2097152x3 .f32) (main_arg1 : FVec F S2097152x3 .f32) (main_arg2 : FVec F S2097152x3 .f32) (main_arg3 : IVec S2097152 32) (main_arg4 : FVec F S100x1 .f32) : IVec S_ 1 :=
  let main_c : IVec S_ 32 := constantI S_ 32 0#32
  let main_v0 : IVec S2097152 32 := broadcastInDim S2097152 ![] bcast_S_S2097152 main_c
  let main_v1 : IVec S2097152 1 := cmpi .sge main_arg3 main_v0
  let main_c_0 : IVec S_ 32 := constantI S_ 32 100#32
  let main_v2 : IVec S2097152 32 := broadcastInDim S2097152 ![] bcast_S_S2097152 main_c_0
  let main_v3 : IVec S2097152 1 := cmpi .slt main_arg3 main_v2
  let main_v4 : IVec S2097152 1 := andi main_v1 main_v3
  let main_c_1 : IVec S_ 1 := constantI S_ 1 1#1
  let main_v5 : IVec S_ 1 := (fun x v => Host.reduce IntOp.andi x v reducesTo_S2097152_S_d0 h_S_) main_v4 main_c_1
  main_v5
-- ==== Kernel.lean ====
abbrev S2097152x3 : Shape := ⟨2, ![2097152, 3]⟩
abbrev S2097152 : Shape := ⟨1, ![2097152]⟩
abbrev S100x1 : Shape := ⟨2, ![100, 1]⟩
abbrev S100 : Shape := ⟨1, ![100]⟩
abbrev S1x2097152 : Shape := ⟨2, ![1, 2097152]⟩
abbrev S_ : Shape := ⟨0, ![]⟩
abbrev S2x1x2048 : Shape := ⟨3, ![2, 1, 2048]⟩
abbrev S2 : Shape := ⟨1, ![2]⟩
abbrev S1x1x2048 : Shape := ⟨3, ![1, 1, 2048]⟩
abbrev S1x2048 : Shape := ⟨2, ![1, 2048]⟩
abbrev S1 : Shape := ⟨1, ![1]⟩
abbrev S16 : Shape := ⟨1, ![16]⟩
abbrev S1x16 : Shape := ⟨2, ![1, 16]⟩
abbrev S16384x384 : Shape := ⟨2, ![16384, 384]⟩
abbrev S16384x128 : Shape := ⟨2, ![16384, 128]⟩
abbrev S3x16384x384 : Shape := ⟨3, ![3, 16384, 384]⟩
abbrev S512x384 : Shape := ⟨2, ![512, 384]⟩
abbrev S512x128 : Shape := ⟨2, ![512, 128]⟩
abbrev S3x512x384 : Shape := ⟨3, ![3, 512, 384]⟩
abbrev S128x384 : Shape := ⟨2, ![128, 384]⟩
abbrev S1x512x384 : Shape := ⟨3, ![1, 512, 384]⟩
abbrev S3x2097152x3 : Shape := ⟨3, ![3, 2097152, 3]⟩

abbrev nBuf : Table → Nat
  | .hbm => 14
  | .local .tc .vmem => 10
  | .local .scVector .vmem => 3
  | _ => 0

abbrev bufTy : (tb : Table) → Fin (nBuf tb) → BufTy
  | .hbm, ⟨0, _⟩ => ⟨S2097152x3, .f32⟩
  | .hbm, ⟨1, _⟩ => ⟨S2097152x3, .f32⟩
  | .hbm, ⟨2, _⟩ => ⟨S2097152x3, .f32⟩
  | .hbm, ⟨3, _⟩ => ⟨S2097152, .i32⟩
  | .hbm, ⟨4, _⟩ => ⟨S100x1, .f32⟩
  | .hbm, ⟨5, _⟩ => ⟨S100, .f32⟩
  | .hbm, ⟨6, _⟩ => ⟨S1x2097152, .i32⟩
  | .hbm, ⟨7, _⟩ => ⟨S1x2097152, .f32⟩
  | .hbm, ⟨8, _⟩ => ⟨S16384x384, .f32⟩
  | .hbm, ⟨9, _⟩ => ⟨S16384x384, .f32⟩
  | .hbm, ⟨10, _⟩ => ⟨S16384x384, .f32⟩
  | .hbm, ⟨11, _⟩ => ⟨S16384x128, .f32⟩
  | .hbm, ⟨12, _⟩ => ⟨S3x16384x384, .f32⟩
  | .hbm, ⟨13, _⟩ => ⟨S3x2097152x3, .f32⟩
  | .local .tc .vmem, ⟨0, _⟩ => ⟨S512x384, .f32⟩
  | .local .tc .vmem, ⟨1, _⟩ => ⟨S512x384, .f32⟩
  | .local .tc .vmem, ⟨2, _⟩ => ⟨S512x384, .f32⟩
  | .local .tc .vmem, ⟨3, _⟩ => ⟨S512x384, .f32⟩
  | .local .tc .vmem, ⟨4, _⟩ => ⟨S512x384, .f32⟩
  | .local .tc .vmem, ⟨5, _⟩ => ⟨S512x384, .f32⟩
  | .local .tc .vmem, ⟨6, _⟩ => ⟨S512x128, .f32⟩
  | .local .tc .vmem, ⟨7, _⟩ => ⟨S512x128, .f32⟩
  | .local .tc .vmem, ⟨8, _⟩ => ⟨S3x512x384, .f32⟩
  | .local .tc .vmem, ⟨9, _⟩ => ⟨S3x512x384, .f32⟩
  | .local .scVector .vmem, ⟨0, _⟩ => ⟨S100, .f32⟩
  | .local .scVector .vmem, ⟨1, _⟩ => ⟨S2x1x2048, .i32⟩
  | .local .scVector .vmem, ⟨2, _⟩ => ⟨S2x1x2048, .f32⟩
  | _, _ => ⟨S2097152x3, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 15 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTables nBuf rfl bufTy 4 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v1_scv : Ref sig .scVector := ⟨.hbm, 6, rfl⟩
abbrev main_v0_scv : Ref sig .scVector := ⟨.hbm, 5, rfl⟩
abbrev main_v2_scv : Ref sig .scVector := ⟨.hbm, 7, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc1_stg4_0 : Ref sig .tc := ⟨.vmem, 8, rfl⟩
abbrev cc1_stg4_1 : Ref sig .tc := ⟨.vmem, 9, rfl⟩
abbrev cc0_scratch0 : Ref sig .scVector := ⟨.vmem, 0, rfl⟩
abbrev cc0_scoped1 : Ref sig .scVector := ⟨.vmem, 1, rfl⟩
abbrev cc0_scoped3 : Ref sig .scVector := ⟨.vmem, 2, rfl⟩
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_13_r1 : BitVec 32 := 0#32
  let c2_i32_r1 : BitVec 32 := 2#32
  let v21_r1 : BitVec 32 := Scalar.remui c0_i32_13_r1 c2_i32_r1
  let c0_i32_14_r1 : BitVec 32 := 0#32
  let c0_i32_15_r1 : BitVec 32 := 0#32
  ![v21_r1.toNat, 0, 0]
def k0_off2 (i : grid0.Coords) : Fin 2 → Nat :=
  let c0_i32_16_r1 : BitVec 32 := 0#32
  let c2048_i32_r1 : BitVec 32 := 2048#32
  let c0_i32_1_r1 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v7_r1 : BitVec 32 := Scalar.addi c0_i32_1_r1 v4
  let v22_r1 : BitVec 32 := Scalar.muli c2048_i32_r1 v7_r1
  ![0, v22_r1.toNat]
def k0_off3 : Fin 1 → Nat :=
  let c0_i32_13_r1 : BitVec 32 := 0#32
  let c2_i32_r1 : BitVec 32 := 2#32
  let v21_r1 : BitVec 32 := Scalar.remui c0_i32_13_r1 c2_i32_r1
  ![v21_r1.toNat]
@[reducible] def k0_t1_loop : Scf.Loop 32 :=
  let c0_i32_26_r1 : BitVec 32 := 0#32
  let c32_i32_27_r1 : BitVec 32 := 32#32
  let v32_r1 : BitVec 32 := Scalar.addi c0_i32_26_r1 c32_i32_27_r1
  let c1_i32_28_r1 : BitVec 32 := 1#32
  ⟨c0_i32_26_r1, v32_r1, c1_i32_28_r1⟩
def k0_off4 (arg7_r1 : BitVec 32) : Fin 3 → Nat :=
  let c2_i32_101_r1 : BitVec 32 := 2#32
  let v145_r1 : BitVec 32 := Scalar.remui arg7_r1 c2_i32_101_r1
  let c0_i32_103_r1 : BitVec 32 := 0#32
  let c0_i32_104_r1 : BitVec 32 := 0#32
  ![v145_r1.toNat, 0, 0]
def k0_cond1 (i : grid0.Coords) (k0_t1 : Fin k0_t1_loop.trips) (arg11_r1 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r1 : BitVec 32 := Scalar.addi arg11_r1 v4
  let true_61_r1 : BitVec 1 := 1#1
  let c1_i32_60_r1 : BitVec 32 := 1#32
  let v72_r1 : BitVec 32 := Scalar.addi arg11_r1 c1_i32_60_r1
  let v73_r1 : BitVec 32 := Scalar.select true_61_r1 v72_r1 arg11_r1
  let c32_i32_62_r1 : BitVec 32 := 32#32
  let v74_r1 : BitVec 1 := Scalar.cmpi .eq v73_r1 c32_i32_62_r1
  let c0_i32_63_r1 : BitVec 32 := 0#32
  let v75_r1 : BitVec 32 := Scalar.select v74_r1 c0_i32_63_r1 v73_r1
  let v76_r1 : BitVec 32 := Scalar.addi v75_r1 v4
  let v82_r1 : BitVec 1 := Scalar.cmpi .ne v66_r1 v76_r1
  let c0_i32_26_r1 : BitVec 32 := 0#32
  let c1_i32_28_r1 : BitVec 32 := 1#32
  let arg6_r1 : BitVec 32 := Scf.iv c0_i32_26_r1 c1_i32_28_r1 k0_t1
  let c31_i32_68_r1 : BitVec 32 := 31#32
  let v83_r1 : BitVec 1 := Scalar.cmpi .sge arg6_r1 c31_i32_68_r1
  let true_69_r1 : BitVec 1 := 1#1
  let v84_r1 : BitVec 1 := Scalar.xori v83_r1 true_69_r1
  let v85_r1 : BitVec 1 := Scalar.andi v82_r1 v84_r1
  let true_70_r1 : BitVec 1 := 1#1
  let v86_r1 : BitVec 1 := Scalar.andi v85_r1 true_70_r1
  let v87_r1 : BitVec 32 := Scalar.extui v86_r1
  let c0_i32_71_r1 : BitVec 32 := 0#32
  let v88_r1 : BitVec 1 := Scalar.cmpi .ne v87_r1 c0_i32_71_r1
  v88_r1

def k0_off5 (i : grid0.Coords) (arg11_r1 : BitVec 32) : Fin 2 → Nat :=
  let c0_i32_105_r1 : BitVec 32 := 0#32
  let c2048_i32_102_r1 : BitVec 32 := 2048#32
  let true_61_r1 : BitVec 1 := 1#1
  let c1_i32_60_r1 : BitVec 32 := 1#32
  let v72_r1 : BitVec 32 := Scalar.addi arg11_r1 c1_i32_60_r1
  let v73_r1 : BitVec 32 := Scalar.select true_61_r1 v72_r1 arg11_r1
  let c32_i32_62_r1 : BitVec 32 := 32#32
  let v74_r1 : BitVec 1 := Scalar.cmpi .eq v73_r1 c32_i32_62_r1
  let c0_i32_63_r1 : BitVec 32 := 0#32
  let v75_r1 : BitVec 32 := Scalar.select v74_r1 c0_i32_63_r1 v73_r1
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v76_r1 : BitVec 32 := Scalar.addi v75_r1 v4
  let v146_r1 : BitVec 32 := Scalar.muli c2048_i32_102_r1 v76_r1
  ![0, v146_r1.toNat]
def k0_off6 (arg7_r1 : BitVec 32) : Fin 1 → Nat :=
  let c2_i32_101_r1 : BitVec 32 := 2#32
  let v145_r1 : BitVec 32 := Scalar.remui arg7_r1 c2_i32_101_r1
  ![v145_r1.toNat]
def k0_off7 (arg8_r1 : BitVec 32) : Fin 3 → Nat :=
  let c2_i32_102_r1 : BitVec 32 := 2#32
  let v146_r1 : BitVec 32 := Scalar.remui arg8_r1 c2_i32_102_r1
  let c0_i32_103_r1 : BitVec 32 := 0#32
  let c0_i32_104_r1 : BitVec 32 := 0#32
  ![v146_r1.toNat, 0, 0]
def k0_cond2 (i : grid0.Coords) (k0_t1 : Fin k0_t1_loop.trips) (arg11_r1 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r1 : BitVec 32 := Scalar.addi arg11_r1 v4
  let true_57_r1 : BitVec 1 := 1#1
  let c1_i32_56_r1 : BitVec 32 := 1#32
  let v67_r1 : BitVec 32 := Scalar.subi arg11_r1 c1_i32_56_r1
  let v68_r1 : BitVec 32 := Scalar.select true_57_r1 v67_r1 arg11_r1
  let c_m1_i32_58_r1 : BitVec 32 := 4294967295#32
  let v69_r1 : BitVec 1 := Scalar.cmpi .eq v68_r1 c_m1_i32_58_r1
  let c31_i32_59_r1 : BitVec 32 := 31#32
  let v70_r1 : BitVec 32 := Scalar.select v69_r1 c31_i32_59_r1 v68_r1
  let v71_r1 : BitVec 32 := Scalar.addi v70_r1 v4
  let v96_r1 : BitVec 1 := Scalar.cmpi .ne v66_r1 v71_r1
  let c0_i32_26_r1 : BitVec 32 := 0#32
  let c1_i32_28_r1 : BitVec 32 := 1#32
  let arg6_r1 : BitVec 32 := Scf.iv c0_i32_26_r1 c1_i32_28_r1 k0_t1
  let c0_i32_54_r1 : BitVec 32 := 0#32
  let v64_r1 : BitVec 1 := Scalar.cmpi .eq arg6_r1 c0_i32_54_r1
  let v97_r1 : BitVec 1 := Scalar.ori v96_r1 v64_r1
  let c0_i32_76_r1 : BitVec 32 := 0#32
  let v98_r1 : BitVec 1 := Scalar.cmpi .sge arg6_r1 c0_i32_76_r1
  let v99_r1 : BitVec 1 := Scalar.andi v97_r1 v98_r1
  let v100_r1 : BitVec 32 := Scalar.extui v99_r1
  let c0_i32_77_r1 : BitVec 32 := 0#32
  let v101_r1 : BitVec 1 := Scalar.cmpi .ne v100_r1 c0_i32_77_r1
  v101_r1

def k0_off8 (i : grid0.Coords) (arg11_r1 : BitVec 32) : Fin 2 → Nat :=
  let c0_i32_105_r1 : BitVec 32 := 0#32
  let c2048_i32_101_r1 : BitVec 32 := 2048#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r1 : BitVec 32 := Scalar.addi arg11_r1 v4
  let v145_r1 : BitVec 32 := Scalar.muli c2048_i32_101_r1 v66_r1
  ![0, v145_r1.toNat]
def k0_off9 (arg8_r1 : BitVec 32) : Fin 1 → Nat :=
  let c2_i32_102_r1 : BitVec 32 := 2#32
  let v146_r1 : BitVec 32 := Scalar.remui arg8_r1 c2_i32_102_r1
  ![v146_r1.toNat]
@[reducible] def k0_t2_loop : Scf.Loop 32 :=
  let c0_i32_82_r1 : BitVec 32 := 0#32
  let c128_i32_r1 : BitVec 32 := 128#32
  let v110_r1 : BitVec 32 := Scalar.addi c0_i32_82_r1 c128_i32_r1
  let c1_i32_83_r1 : BitVec 32 := 1#32
  ⟨c0_i32_82_r1, v110_r1, c1_i32_83_r1⟩
def k0_off10 (arg8_r1 : BitVec 32) : Fin 3 → Nat :=
  let c2_i32_80_r1 : BitVec 32 := 2#32
  let v108_r1 : BitVec 32 := Scalar.remui arg8_r1 c2_i32_80_r1
  let c0_i32_104_r1 : BitVec 32 := 0#32
  let c0_i32_105_r1 : BitVec 32 := 0#32
  ![v108_r1.toNat, 0, 0]

def k0_chk2 (arg8_r1 : BitVec 32) : Prop :=
  (∀ a, (k0_off10 arg8_r1) a + S1x1x2048.size a ≤ S2x1x2048.size a)
theorem k0_off10_inb : ∀ (arg8_r1 : BitVec 32) (k0_hw2 : k0_chk2 arg8_r1), ∀ a, (k0_off10 arg8_r1) a + S1x1x2048.size a ≤ S2x1x2048.size a := fun arg8_r1 k0_hw2 => k0_hw2

def k0_off11 (k0_t2 : Fin k0_t2_loop.trips) : Fin 2 → Nat :=
  let c0_i32_103_r1 : BitVec 32 := 0#32
  let v149_r1 : Index := Scalar.indexCast c0_i32_103_r1
  let c0_i32_102_r1 : BitVec 32 := 0#32
  let c0_i32_82_r1 : BitVec 32 := 0#32
  let c1_i32_83_r1 : BitVec 32 := 1#32
  let arg12_r1 : BitVec 32 := Scf.iv c0_i32_82_r1 c1_i32_83_r1 k0_t2
  let c16_i32_101_r1 : BitVec 32 := 16#32
  let v145_r1 : BitVec 32 := Scalar.muli arg12_r1 c16_i32_101_r1
  let v146_r1 : BitVec 32 := Scalar.addi c0_i32_102_r1 v145_r1
  let v150_r1 : Index := Scalar.indexCast v146_r1
  ![0, v150_r1.toNat]

def k0_chk3 (v151_r1 : IVec S16 32) : Prop :=
  (∀ a x, ((![v151_r1] : Fin 1 → IVec S16 32) a x).toNat < S100.size a)
theorem k0_idx1_inb : ∀ (v151_r1 : IVec S16 32) (k0_hw3 : k0_chk3 v151_r1), ∀ a x, ((![v151_r1] : Fin 1 → IVec S16 32) a x).toNat < S100.size a := fun v151_r1 k0_hw3 => k0_hw3
def k0_off12 (arg9_r1 : BitVec 32) : Fin 3 → Nat :=
  let c2_i32_81_r1 : BitVec 32 := 2#32
  let v109_r1 : BitVec 32 := Scalar.remui arg9_r1 c2_i32_81_r1
  let c0_i32_107_r1 : BitVec 32 := 0#32
  let c0_i32_108_r1 : BitVec 32 := 0#32
  ![v109_r1.toNat, 0, 0]

def k0_chk4 (arg9_r1 : BitVec 32) : Prop :=
  (∀ a, (k0_off12 arg9_r1) a + S1x1x2048.size a ≤ S2x1x2048.size a)
theorem k0_off12_inb : ∀ (arg9_r1 : BitVec 32) (k0_hw4 : k0_chk4 arg9_r1), ∀ a, (k0_off12 arg9_r1) a + S1x1x2048.size a ≤ S2x1x2048.size a := fun arg9_r1 k0_hw4 => k0_hw4

def k0_off13 (k0_t2 : Fin k0_t2_loop.trips) : Fin 2 → Nat :=
  let c0_i32_106_r1 : BitVec 32 := 0#32
  let v155_r1 : Index := Scalar.indexCast c0_i32_106_r1
  let c0_i32_102_r1 : BitVec 32 := 0#32
  let c0_i32_82_r1 : BitVec 32 := 0#32
  let c1_i32_83_r1 : BitVec 32 := 1#32
  let arg12_r1 : BitVec 32 := Scf.iv c0_i32_82_r1 c1_i32_83_r1 k0_t2
  let c16_i32_101_r1 : BitVec 32 := 16#32
  let v145_r1 : BitVec 32 := Scalar.muli arg12_r1 c16_i32_101_r1
  let v146_r1 : BitVec 32 := Scalar.addi c0_i32_102_r1 v145_r1
  let v156_r1 : Index := Scalar.indexCast v146_r1
  ![0, v156_r1.toNat]
def k0_off14 (arg9_r1 : BitVec 32) : Fin 3 → Nat :=
  let c2_i32_101_r1 : BitVec 32 := 2#32
  let v145_r1 : BitVec 32 := Scalar.remui arg9_r1 c2_i32_101_r1
  let c0_i32_103_r1 : BitVec 32 := 0#32
  let c0_i32_104_r1 : BitVec 32 := 0#32
  ![v145_r1.toNat, 0, 0]
def k0_cond5 (i : grid0.Coords) (k0_t1 : Fin k0_t1_loop.trips) (arg11_r1 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r1 : BitVec 32 := Scalar.addi arg11_r1 v4
  let true_61_r1 : BitVec 1 := 1#1
  let c1_i32_60_r1 : BitVec 32 := 1#32
  let v72_r1 : BitVec 32 := Scalar.addi arg11_r1 c1_i32_60_r1
  let v73_r1 : BitVec 32 := Scalar.select true_61_r1 v72_r1 arg11_r1
  let c32_i32_62_r1 : BitVec 32 := 32#32
  let v74_r1 : BitVec 1 := Scalar.cmpi .eq v73_r1 c32_i32_62_r1
  let c0_i32_63_r1 : BitVec 32 := 0#32
  let v75_r1 : BitVec 32 := Scalar.select v74_r1 c0_i32_63_r1 v73_r1
  let v76_r1 : BitVec 32 := Scalar.addi v75_r1 v4
  let v116_r1 : BitVec 1 := Scalar.cmpi .ne v66_r1 v76_r1
  let c0_i32_26_r1 : BitVec 32 := 0#32
  let c1_i32_28_r1 : BitVec 32 := 1#32
  let arg6_r1 : BitVec 32 := Scf.iv c0_i32_26_r1 c1_i32_28_r1 k0_t1
  let c31_i32_55_r1 : BitVec 32 := 31#32
  let v65_r1 : BitVec 1 := Scalar.cmpi .eq arg6_r1 c31_i32_55_r1
  let v117_r1 : BitVec 1 := Scalar.ori v116_r1 v65_r1
  let v118_r1 : BitVec 32 := Scalar.extui v117_r1
  let c0_i32_86_r1 : BitVec 32 := 0#32
  let v119_r1 : BitVec 1 := Scalar.cmpi .ne v118_r1 c0_i32_86_r1
  v119_r1

def k0_off15 (i : grid0.Coords) (arg11_r1 : BitVec 32) : Fin 2 → Nat :=
  let c0_i32_105_r1 : BitVec 32 := 0#32
  let c2048_i32_102_r1 : BitVec 32 := 2048#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r1 : BitVec 32 := Scalar.addi arg11_r1 v4
  let v146_r1 : BitVec 32 := Scalar.muli c2048_i32_102_r1 v66_r1
  ![0, v146_r1.toNat]
def k0_off16 (arg9_r1 : BitVec 32) : Fin 1 → Nat :=
  let c2_i32_101_r1 : BitVec 32 := 2#32
  let v145_r1 : BitVec 32 := Scalar.remui arg9_r1 c2_i32_101_r1
  ![v145_r1.toNat]
def k0_off17 (arg10_r1 : BitVec 32) : Fin 3 → Nat :=
  let c2_i32_101_r1 : BitVec 32 := 2#32
  let v145_r1 : BitVec 32 := Scalar.remui arg10_r1 c2_i32_101_r1
  let c0_i32_103_r1 : BitVec 32 := 0#32
  let c0_i32_104_r1 : BitVec 32 := 0#32
  ![v145_r1.toNat, 0, 0]
def k0_cond7 (i : grid0.Coords) (k0_t1 : Fin k0_t1_loop.trips) (arg11_r1 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r1 : BitVec 32 := Scalar.addi arg11_r1 v4
  let true_57_r1 : BitVec 1 := 1#1
  let c1_i32_56_r1 : BitVec 32 := 1#32
  let v67_r1 : BitVec 32 := Scalar.subi arg11_r1 c1_i32_56_r1
  let v68_r1 : BitVec 32 := Scalar.select true_57_r1 v67_r1 arg11_r1
  let c_m1_i32_58_r1 : BitVec 32 := 4294967295#32
  let v69_r1 : BitVec 1 := Scalar.cmpi .eq v68_r1 c_m1_i32_58_r1
  let c31_i32_59_r1 : BitVec 32 := 31#32
  let v70_r1 : BitVec 32 := Scalar.select v69_r1 c31_i32_59_r1 v68_r1
  let v71_r1 : BitVec 32 := Scalar.addi v70_r1 v4
  let v129_r1 : BitVec 1 := Scalar.cmpi .ne v66_r1 v71_r1
  let c0_i32_26_r1 : BitVec 32 := 0#32
  let c1_i32_28_r1 : BitVec 32 := 1#32
  let arg6_r1 : BitVec 32 := Scf.iv c0_i32_26_r1 c1_i32_28_r1 k0_t1
  let c0_i32_54_r1 : BitVec 32 := 0#32
  let v64_r1 : BitVec 1 := Scalar.cmpi .eq arg6_r1 c0_i32_54_r1
  let true_92_r1 : BitVec 1 := 1#1
  let v130_r1 : BitVec 1 := Scalar.xori v64_r1 true_92_r1
  let v131_r1 : BitVec 1 := Scalar.andi v129_r1 v130_r1
  let v132_r1 : BitVec 32 := Scalar.extui v131_r1
  let c0_i32_93_r1 : BitVec 32 := 0#32
  let v133_r1 : BitVec 1 := Scalar.cmpi .ne v132_r1 c0_i32_93_r1
  v133_r1

def k0_off18 (i : grid0.Coords) (arg11_r1 : BitVec 32) : Fin 2 → Nat :=
  let c0_i32_105_r1 : BitVec 32 := 0#32
  let c2048_i32_102_r1 : BitVec 32 := 2048#32
  let true_57_r1 : BitVec 1 := 1#1
  let c1_i32_56_r1 : BitVec 32 := 1#32
  let v67_r1 : BitVec 32 := Scalar.subi arg11_r1 c1_i32_56_r1
  let v68_r1 : BitVec 32 := Scalar.select true_57_r1 v67_r1 arg11_r1
  let c_m1_i32_58_r1 : BitVec 32 := 4294967295#32
  let v69_r1 : BitVec 1 := Scalar.cmpi .eq v68_r1 c_m1_i32_58_r1
  let c31_i32_59_r1 : BitVec 32 := 31#32
  let v70_r1 : BitVec 32 := Scalar.select v69_r1 c31_i32_59_r1 v68_r1
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v71_r1 : BitVec 32 := Scalar.addi v70_r1 v4
  let v146_r1 : BitVec 32 := Scalar.muli c2048_i32_102_r1 v71_r1
  ![0, v146_r1.toNat]
def k0_off19 (arg10_r1 : BitVec 32) : Fin 1 → Nat :=
  let c2_i32_101_r1 : BitVec 32 := 2#32
  let v145_r1 : BitVec 32 := Scalar.remui arg10_r1 c2_i32_101_r1
  ![v145_r1.toNat]

def k0_chk1 (i : grid0.Coords) (k0_t1 : Fin k0_t1_loop.trips) (arg7_r1 : BitVec 32) (arg8_r1 : BitVec 32) (arg9_r1 : BitVec 32) (arg10_r1 : BitVec 32) (arg11_r1 : BitVec 32) : Prop :=
  (∀ (k0_h1 : k0_cond1 i k0_t1 arg11_r1 = 1#1), ∀ a, (k0_off4 arg7_r1) a + S1x1x2048.size a ≤ S2x1x2048.size a) ∧
  (∀ (k0_h1 : k0_cond1 i k0_t1 arg11_r1 = 1#1), ∀ a, (k0_off5 i arg11_r1) a + S1x2048.size a ≤ S1x2097152.size a) ∧
  (∀ (k0_h1 : k0_cond1 i k0_t1 arg11_r1 = 1#1), ∀ a, (k0_off6 arg7_r1) a + S1.size a ≤ S2.size a) ∧
  (∀ (k0_h2 : k0_cond2 i k0_t1 arg11_r1 = 1#1), ∀ a, (k0_off7 arg8_r1) a + S1x1x2048.size a ≤ S2x1x2048.size a) ∧
  (∀ (k0_h2 : k0_cond2 i k0_t1 arg11_r1 = 1#1), ∀ a, (k0_off8 i arg11_r1) a + S1x2048.size a ≤ S1x2097152.size a) ∧
  (∀ (k0_h2 : k0_cond2 i k0_t1 arg11_r1 = 1#1), ∀ a, (k0_off9 arg8_r1) a + S1.size a ≤ S2.size a) ∧
  (∀ (k0_h5 : k0_cond5 i k0_t1 arg11_r1 = 1#1), ∀ a, (k0_off14 arg9_r1) a + S1x1x2048.size a ≤ S2x1x2048.size a) ∧
  (∀ (k0_h5 : k0_cond5 i k0_t1 arg11_r1 = 1#1), ∀ a, (k0_off15 i arg11_r1) a + S1x2048.size a ≤ S1x2097152.size a) ∧
  (∀ (k0_h5 : k0_cond5 i k0_t1 arg11_r1 = 1#1), ∀ a, (k0_off16 arg9_r1) a + S1.size a ≤ S2.size a) ∧
  (∀ (k0_h7 : k0_cond7 i k0_t1 arg11_r1 = 1#1), ∀ a, (k0_off17 arg10_r1) a + S1x1x2048.size a ≤ S2x1x2048.size a) ∧
  (∀ (k0_h7 : k0_cond7 i k0_t1 arg11_r1 = 1#1), ∀ a, (k0_off18 i arg11_r1) a + S1x2048.size a ≤ S1x2097152.size a) ∧
  (∀ (k0_h7 : k0_cond7 i k0_t1 arg11_r1 = 1#1), ∀ a, (k0_off19 arg10_r1) a + S1.size a ≤ S2.size a)
theorem k0_off4_inb : ∀ (i : grid0.Coords) (k0_t1 : Fin k0_t1_loop.trips) (arg7_r1 : BitVec 32) (arg8_r1 : BitVec 32) (arg9_r1 : BitVec 32) (arg10_r1 : BitVec 32) (arg11_r1 : BitVec 32) (k0_hw1 : k0_chk1 i k0_t1 arg7_r1 arg8_r1 arg9_r1 arg10_r1 arg11_r1), ∀ (k0_h1 : k0_cond1 i k0_t1 arg11_r1 = 1#1), ∀ a, (k0_off4 arg7_r1) a + S1x1x2048.size a ≤ S2x1x2048.size a := fun i k0_t1 arg7_r1 arg8_r1 arg9_r1 arg10_r1 arg11_r1 k0_hw1 k0_h1 => k0_hw1.1 k0_h1
theorem k0_off5_inb : ∀ (i : grid0.Coords) (k0_t1 : Fin k0_t1_loop.trips) (arg7_r1 : BitVec 32) (arg8_r1 : BitVec 32) (arg9_r1 : BitVec 32) (arg10_r1 : BitVec 32) (arg11_r1 : BitVec 32) (k0_hw1 : k0_chk1 i k0_t1 arg7_r1 arg8_r1 arg9_r1 arg10_r1 arg11_r1), ∀ (k0_h1 : k0_cond1 i k0_t1 arg11_r1 = 1#1), ∀ a, (k0_off5 i arg11_r1) a + S1x2048.size a ≤ S1x2097152.size a := fun i k0_t1 arg7_r1 arg8_r1 arg9_r1 arg10_r1 arg11_r1 k0_hw1 k0_h1 => k0_hw1.2.1 k0_h1
theorem k0_off6_inb : ∀ (i : grid0.Coords) (k0_t1 : Fin k0_t1_loop.trips) (arg7_r1 : BitVec 32) (arg8_r1 : BitVec 32) (arg9_r1 : BitVec 32) (arg10_r1 : BitVec 32) (arg11_r1 : BitVec 32) (k0_hw1 : k0_chk1 i k0_t1 arg7_r1 arg8_r1 arg9_r1 arg10_r1 arg11_r1), ∀ (k0_h1 : k0_cond1 i k0_t1 arg11_r1 = 1#1), ∀ a, (k0_off6 arg7_r1) a + S1.size a ≤ S2.size a := fun i k0_t1 arg7_r1 arg8_r1 arg9_r1 arg10_r1 arg11_r1 k0_hw1 k0_h1 => k0_hw1.2.2.1 k0_h1
theorem k0_off7_inb : ∀ (i : grid0.Coords) (k0_t1 : Fin k0_t1_loop.trips) (arg7_r1 : BitVec 32) (arg8_r1 : BitVec 32) (arg9_r1 : BitVec 32) (arg10_r1 : BitVec 32) (arg11_r1 : BitVec 32) (k0_hw1 : k0_chk1 i k0_t1 arg7_r1 arg8_r1 arg9_r1 arg10_r1 arg11_r1), ∀ (k0_h2 : k0_cond2 i k0_t1 arg11_r1 = 1#1), ∀ a, (k0_off7 arg8_r1) a + S1x1x2048.size a ≤ S2x1x2048.size a := fun i k0_t1 arg7_r1 arg8_r1 arg9_r1 arg10_r1 arg11_r1 k0_hw1 k0_h2 => k0_hw1.2.2.2.1 k0_h2
theorem k0_off8_inb : ∀ (i : grid0.Coords) (k0_t1 : Fin k0_t1_loop.trips) (arg7_r1 : BitVec 32) (arg8_r1 : BitVec 32) (arg9_r1 : BitVec 32) (arg10_r1 : BitVec 32) (arg11_r1 : BitVec 32) (k0_hw1 : k0_chk1 i k0_t1 arg7_r1 arg8_r1 arg9_r1 arg10_r1 arg11_r1), ∀ (k0_h2 : k0_cond2 i k0_t1 arg11_r1 = 1#1), ∀ a, (k0_off8 i arg11_r1) a + S1x2048.size a ≤ S1x2097152.size a := fun i k0_t1 arg7_r1 arg8_r1 arg9_r1 arg10_r1 arg11_r1 k0_hw1 k0_h2 => k0_hw1.2.2.2.2.1 k0_h2
theorem k0_off9_inb : ∀ (i : grid0.Coords) (k0_t1 : Fin k0_t1_loop.trips) (arg7_r1 : BitVec 32) (arg8_r1 : BitVec 32) (arg9_r1 : BitVec 32) (arg10_r1 : BitVec 32) (arg11_r1 : BitVec 32) (k0_hw1 : k0_chk1 i k0_t1 arg7_r1 arg8_r1 arg9_r1 arg10_r1 arg11_r1), ∀ (k0_h2 : k0_cond2 i k0_t1 arg11_r1 = 1#1), ∀ a, (k0_off9 arg8_r1) a + S1.size a ≤ S2.size a := fun i k0_t1 arg7_r1 arg8_r1 arg9_r1 arg10_r1 arg11_r1 k0_hw1 k0_h2 => k0_hw1.2.2.2.2.2.1 k0_h2
theorem k0_off14_inb : ∀ (i : grid0.Coords) (k0_t1 : Fin k0_t1_loop.trips) (arg7_r1 : BitVec 32) (arg8_r1 : BitVec 32) (arg9_r1 : BitVec 32) (arg10_r1 : BitVec 32) (arg11_r1 : BitVec 32) (k0_hw1 : k0_chk1 i k0_t1 arg7_r1 arg8_r1 arg9_r1 arg10_r1 arg11_r1), ∀ (k0_h5 : k0_cond5 i k0_t1 arg11_r1 = 1#1), ∀ a, (k0_off14 arg9_r1) a + S1x1x2048.size a ≤ S2x1x2048.size a := fun i k0_t1 arg7_r1 arg8_r1 arg9_r1 arg10_r1 arg11_r1 k0_hw1 k0_h5 => k0_hw1.2.2.2.2.2.2.1 k0_h5
theorem k0_off15_inb : ∀ (i : grid0.Coords) (k0_t1 : Fin k0_t1_loop.trips) (arg7_r1 : BitVec 32) (arg8_r1 : BitVec 32) (arg9_r1 : BitVec 32) (arg10_r1 : BitVec 32) (arg11_r1 : BitVec 32) (k0_hw1 : k0_chk1 i k0_t1 arg7_r1 arg8_r1 arg9_r1 arg10_r1 arg11_r1), ∀ (k0_h5 : k0_cond5 i k0_t1 arg11_r1 = 1#1), ∀ a, (k0_off15 i arg11_r1) a + S1x2048.size a ≤ S1x2097152.size a := fun i k0_t1 arg7_r1 arg8_r1 arg9_r1 arg10_r1 arg11_r1 k0_hw1 k0_h5 => k0_hw1.2.2.2.2.2.2.2.1 k0_h5
theorem k0_off16_inb : ∀ (i : grid0.Coords) (k0_t1 : Fin k0_t1_loop.trips) (arg7_r1 : BitVec 32) (arg8_r1 : BitVec 32) (arg9_r1 : BitVec 32) (arg10_r1 : BitVec 32) (arg11_r1 : BitVec 32) (k0_hw1 : k0_chk1 i k0_t1 arg7_r1 arg8_r1 arg9_r1 arg10_r1 arg11_r1), ∀ (k0_h5 : k0_cond5 i k0_t1 arg11_r1 = 1#1), ∀ a, (k0_off16 arg9_r1) a + S1.size a ≤ S2.size a := fun i k0_t1 arg7_r1 arg8_r1 arg9_r1 arg10_r1 arg11_r1 k0_hw1 k0_h5 => k0_hw1.2.2.2.2.2.2.2.2.1 k0_h5
theorem k0_off17_inb : ∀ (i : grid0.Coords) (k0_t1 : Fin k0_t1_loop.trips) (arg7_r1 : BitVec 32) (arg8_r1 : BitVec 32) (arg9_r1 : BitVec 32) (arg10_r1 : BitVec 32) (arg11_r1 : BitVec 32) (k0_hw1 : k0_chk1 i k0_t1 arg7_r1 arg8_r1 arg9_r1 arg10_r1 arg11_r1), ∀ (k0_h7 : k0_cond7 i k0_t1 arg11_r1 = 1#1), ∀ a, (k0_off17 arg10_r1) a + S1x1x2048.size a ≤ S2x1x2048.size a := fun i k0_t1 arg7_r1 arg8_r1 arg9_r1 arg10_r1 arg11_r1 k0_hw1 k0_h7 => k0_hw1.2.2.2.2.2.2.2.2.2.1 k0_h7
theorem k0_off18_inb : ∀ (i : grid0.Coords) (k0_t1 : Fin k0_t1_loop.trips) (arg7_r1 : BitVec 32) (arg8_r1 : BitVec 32) (arg9_r1 : BitVec 32) (arg10_r1 : BitVec 32) (arg11_r1 : BitVec 32) (k0_hw1 : k0_chk1 i k0_t1 arg7_r1 arg8_r1 arg9_r1 arg10_r1 arg11_r1), ∀ (k0_h7 : k0_cond7 i k0_t1 arg11_r1 = 1#1), ∀ a, (k0_off18 i arg11_r1) a + S1x2048.size a ≤ S1x2097152.size a := fun i k0_t1 arg7_r1 arg8_r1 arg9_r1 arg10_r1 arg11_r1 k0_hw1 k0_h7 => k0_hw1.2.2.2.2.2.2.2.2.2.2.1 k0_h7
theorem k0_off19_inb : ∀ (i : grid0.Coords) (k0_t1 : Fin k0_t1_loop.trips) (arg7_r1 : BitVec 32) (arg8_r1 : BitVec 32) (arg9_r1 : BitVec 32) (arg10_r1 : BitVec 32) (arg11_r1 : BitVec 32) (k0_hw1 : k0_chk1 i k0_t1 arg7_r1 arg8_r1 arg9_r1 arg10_r1 arg11_r1), ∀ (k0_h7 : k0_cond7 i k0_t1 arg11_r1 = 1#1), ∀ a, (k0_off19 arg10_r1) a + S1.size a ≤ S2.size a := fun i k0_t1 arg7_r1 arg8_r1 arg9_r1 arg10_r1 arg11_r1 k0_hw1 k0_h7 => k0_hw1.2.2.2.2.2.2.2.2.2.2.2 k0_h7

def k0_off20 (v33_3_r1 : BitVec 32) : Fin 3 → Nat :=
  let c2_i32_46_r1 : BitVec 32 := 2#32
  let v54_r1 : BitVec 32 := Scalar.remui v33_3_r1 c2_i32_46_r1
  let c0_i32_48_r1 : BitVec 32 := 0#32
  let c0_i32_49_r1 : BitVec 32 := 0#32
  ![v54_r1.toNat, 0, 0]

def k0_off21 (i : grid0.Coords) (v33_4_r1 : BitVec 32) : Fin 2 → Nat :=
  let c0_i32_50_r1 : BitVec 32 := 0#32
  let c2048_i32_47_r1 : BitVec 32 := 2048#32
  let true_31_r1 : BitVec 1 := 1#1
  let c1_i32_30_r1 : BitVec 32 := 1#32
  let v34_r1 : BitVec 32 := Scalar.subi v33_4_r1 c1_i32_30_r1
  let v35_r1 : BitVec 32 := Scalar.select true_31_r1 v34_r1 v33_4_r1
  let c_m1_i32_32_r1 : BitVec 32 := 4294967295#32
  let v36_r1 : BitVec 1 := Scalar.cmpi .eq v35_r1 c_m1_i32_32_r1
  let c31_i32_33_r1 : BitVec 32 := 31#32
  let v37_r1 : BitVec 32 := Scalar.select v36_r1 c31_i32_33_r1 v35_r1
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v38_r1 : BitVec 32 := Scalar.addi v37_r1 v4
  let v55_r1 : BitVec 32 := Scalar.muli c2048_i32_47_r1 v38_r1
  ![0, v55_r1.toNat]

def k0_chk6 (i : grid0.Coords) (v33_4_r1 : BitVec 32) : Prop :=
  (∀ a, (k0_off21 i v33_4_r1) a + S1x2048.size a ≤ S1x2097152.size a)
theorem k0_off21_inb : ∀ (i : grid0.Coords) (v33_4_r1 : BitVec 32) (k0_hw6 : k0_chk6 i v33_4_r1), ∀ a, (k0_off21 i v33_4_r1) a + S1x2048.size a ≤ S1x2097152.size a := fun i v33_4_r1 k0_hw6 => k0_hw6

def k0_off22 (v33_3_r1 : BitVec 32) : Fin 1 → Nat :=
  let c2_i32_46_r1 : BitVec 32 := 2#32
  let v54_r1 : BitVec 32 := Scalar.remui v33_3_r1 c2_i32_46_r1
  ![v54_r1.toNat]
def k0_off23 (v33_3_r1 : BitVec 32) : Fin 3 → Nat :=
  let c2_i32_46_r1 : BitVec 32 := 2#32
  let v54_r1 : BitVec 32 := Scalar.remui v33_3_r1 c2_i32_46_r1
  let c0_i32_52_r1 : BitVec 32 := 0#32
  let c0_i32_53_r1 : BitVec 32 := 0#32
  ![v54_r1.toNat, 0, 0]

def k0_chk5 (v33_3_r1 : BitVec 32) : Prop :=
  (∀ a, (k0_off20 v33_3_r1) a + S1x1x2048.size a ≤ S2x1x2048.size a) ∧
  (∀ a, (k0_off22 v33_3_r1) a + S1.size a ≤ S2.size a) ∧
  (∀ a, (k0_off23 v33_3_r1) a + S1x1x2048.size a ≤ S2x1x2048.size a)
theorem k0_off20_inb : ∀ (v33_3_r1 : BitVec 32) (k0_hw5 : k0_chk5 v33_3_r1), ∀ a, (k0_off20 v33_3_r1) a + S1x1x2048.size a ≤ S2x1x2048.size a := fun v33_3_r1 k0_hw5 => k0_hw5.1
theorem k0_off22_inb : ∀ (v33_3_r1 : BitVec 32) (k0_hw5 : k0_chk5 v33_3_r1), ∀ a, (k0_off22 v33_3_r1) a + S1.size a ≤ S2.size a := fun v33_3_r1 k0_hw5 => k0_hw5.2.1
theorem k0_off23_inb : ∀ (v33_3_r1 : BitVec 32) (k0_hw5 : k0_chk5 v33_3_r1), ∀ a, (k0_off23 v33_3_r1) a + S1x1x2048.size a ≤ S2x1x2048.size a := fun v33_3_r1 k0_hw5 => k0_hw5.2.2

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S512x384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x384 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x384 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S3x512x384 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "inv_two_pi" => some ((2097152 / 13176795 : ℝ) : EReal)
  | _ => none
-- ==== ReferenceIdeal.lean ====
abbrev S2097152x3 : Shape := ⟨2, ![2097152, 3]⟩
abbrev S2097152 : Shape := ⟨1, ![2097152]⟩
abbrev S100x1 : Shape := ⟨2, ![100, 1]⟩
abbrev S_ : Shape := ⟨0, ![]⟩
abbrev S100 : Shape := ⟨1, ![100]⟩
abbrev S2097152x1 : Shape := ⟨2, ![2097152, 1]⟩
abbrev S1 : Shape := ⟨1, ![1]⟩
abbrev S1x1 : Shape := ⟨2, ![1, 1]⟩
abbrev S1x2097152x3 : Shape := ⟨3, ![1, 2097152, 3]⟩
abbrev S3x2097152x3 : Shape := ⟨3, ![3, 2097152, 3]⟩

abbrev nBuf : Space → Nat
  | .hbm => 166
  | .vmem => 0
  | .smem => 0
  | _ => 0

abbrev hbmTy0_0 (i : Nat) : BufTy := match i % 128 with
  | 0 => ⟨S2097152x3, .f32⟩
  | 1 => ⟨S2097152x3, .f32⟩
  | 2 => ⟨S2097152x3, .f32⟩
  | 3 => ⟨S2097152, .i32⟩
  | 4 => ⟨S100x1, .f32⟩
  | 5 => ⟨S_, .f32⟩
  | 6 => ⟨S2097152x3, .f32⟩
  | 7 => ⟨S2097152x3, .f32⟩
  | 8 => ⟨S_, .f32⟩
  | 9 => ⟨S2097152x3, .f32⟩
  | 10 => ⟨S2097152x3, .f32⟩
  | 11 => ⟨S2097152x3, .f32⟩
  | 12 => ⟨S_, .f32⟩
  | 13 => ⟨S2097152x3, .f32⟩
  | 14 => ⟨S2097152x3, .f32⟩
  | 15 => ⟨S_, .f32⟩
  | 16 => ⟨S2097152x3, .f32⟩
  | 17 => ⟨S2097152x3, .f32⟩
  | 18 => ⟨S2097152x3, .f32⟩
  | 19 => ⟨S_, .f32⟩
  | 20 => ⟨S2097152x3, .f32⟩
  | 21 => ⟨S2097152x3, .f32⟩
  | 22 => ⟨S2097152x3, .f32⟩
  | 23 => ⟨S_, .f32⟩
  | 24 => ⟨S2097152x3, .f32⟩
  | 25 => ⟨S2097152x3, .f32⟩
  | 26 => ⟨S2097152x3, .f32⟩
  | 27 => ⟨S_, .f32⟩
  | 28 => ⟨S2097152x3, .f32⟩
  | 29 => ⟨S2097152x3, .f32⟩
  | 30 => ⟨S2097152x3, .f32⟩
  | 31 => ⟨S_, .f32⟩
  | 32 => ⟨S2097152x3, .f32⟩
  | 33 => ⟨S2097152x3, .f32⟩
  | 34 => ⟨S2097152x3, .f32⟩
  | 35 => ⟨S_, .f32⟩
  | 36 => ⟨S2097152x3, .f32⟩
  | 37 => ⟨S2097152x3, .f32⟩
  | 38 => ⟨S2097152x3, .f32⟩
  | 39 => ⟨S_, .f32⟩
  | 40 => ⟨S2097152x3, .f32⟩
  | 41 => ⟨S2097152x3, .f32⟩
  | 42 => ⟨S2097152x3, .f32⟩
  | 43 => ⟨S_, .f32⟩
  | 44 => ⟨S2097152x3, .f32⟩
  | 45 => ⟨S2097152x3, .f32⟩
  | 46 => ⟨S2097152x3, .f32⟩
  | 47 => ⟨S_, .f32⟩
  | 48 => ⟨S2097152x3, .f32⟩
  | 49 => ⟨S2097152x3, .f32⟩
  | 50 => ⟨S_, .f32⟩
  | 51 => ⟨S2097152x3, .f32⟩
  | 52 => ⟨S2097152x3, .f32⟩
  | 53 => ⟨S2097152x3, .f32⟩
  | 54 => ⟨S_, .f32⟩
  | 55 => ⟨S2097152x3, .f32⟩
  | 56 => ⟨S2097152x3, .f32⟩
  | 57 => ⟨S2097152x3, .f32⟩
  | 58 => ⟨S_, .f32⟩
  | 59 => ⟨S2097152x3, .f32⟩
  | 60 => ⟨S2097152x3, .f32⟩
  | 61 => ⟨S2097152x3, .f32⟩
  | 62 => ⟨S_, .f32⟩
  | 63 => ⟨S2097152x3, .f32⟩
  | 64 => ⟨S2097152x3, .f32⟩
  | 65 => ⟨S2097152x3, .f32⟩
  | 66 => ⟨S_, .f32⟩
  | 67 => ⟨S2097152x3, .f32⟩
  | 68 => ⟨S2097152x3, .f32⟩
  | 69 => ⟨S2097152x3, .f32⟩
  | 70 => ⟨S_, .f32⟩
  | 71 => ⟨S2097152x3, .f32⟩
  | 72 => ⟨S2097152x3, .f32⟩
  | 73 => ⟨S2097152x3, .f32⟩
  | 74 => ⟨S_, .f32⟩
  | 75 => ⟨S2097152x3, .f32⟩
  | 76 => ⟨S2097152x3, .f32⟩
  | 77 => ⟨S2097152x3, .f32⟩
  | 78 => ⟨S_, .f32⟩
  | 79 => ⟨S2097152x3, .f32⟩
  | 80 => ⟨S2097152x3, .f32⟩
  | 81 => ⟨S100, .f32⟩
  | 82 => ⟨S_, .i32⟩
  | 83 => ⟨S2097152, .i32⟩
  | 84 => ⟨S2097152, .i1⟩
  | 85 => ⟨S_, .i32⟩
  | 86 => ⟨S2097152, .i32⟩
  | 87 => ⟨S2097152, .i32⟩
  | 88 => ⟨S2097152, .i32⟩
  | 89 => ⟨S2097152x1, .i32⟩
  | 90 => ⟨S1, .i32⟩
  | 91 => ⟨S_, .i32⟩
  | 92 => ⟨S2097152x1, .i32⟩
  | 93 => ⟨S2097152x1, .i1⟩
  | 94 => ⟨S1x1, .i32⟩
  | 95 => ⟨S2097152x1, .i32⟩
  | 96 => ⟨S2097152x1, .i1⟩
  | 97 => ⟨S2097152x1, .i1⟩
  | 98 => ⟨S_, .i1⟩
  | 99 => ⟨S2097152, .i1⟩
  | 100 => ⟨S2097152, .f32⟩
  | 101 => ⟨S_, .f32⟩
  | 102 => ⟨S2097152, .f32⟩
  | 103 => ⟨S2097152, .f32⟩
  | 104 => ⟨S2097152x1, .f32⟩
  | 105 => ⟨S2097152x3, .f32⟩
  | 106 => ⟨S2097152x3, .f32⟩
  | 107 => ⟨S2097152x3, .f32⟩
  | 108 => ⟨S2097152x3, .f32⟩
  | 109 => ⟨S2097152x3, .f32⟩
  | 110 => ⟨S2097152x3, .f32⟩
  | 111 => ⟨S2097152x3, .f32⟩
  | 112 => ⟨S2097152x3, .f32⟩
  | 113 => ⟨S2097152x3, .f32⟩
  | 114 => ⟨S2097152x3, .f32⟩
  | 115 => ⟨S_, .f32⟩
  | 116 => ⟨S2097152x3, .f32⟩
  | 117 => ⟨S2097152x3, .f32⟩
  | 118 => ⟨S2097152x3, .f32⟩
  | 119 => ⟨S2097152x3, .f32⟩
  | 120 => ⟨S_, .f32⟩
  | 121 => ⟨S2097152x3, .f32⟩
  | 122 => ⟨S2097152x3, .f32⟩
  | 123 => ⟨S_, .f32⟩
  | 124 => ⟨S2097152x3, .f32⟩
  | 125 => ⟨S2097152x3, .f32⟩
  | 126 => ⟨S2097152x3, .f32⟩
  | 127 => ⟨S_, .f32⟩
  | _ => ⟨S2097152x3, .f32⟩

abbrev hbmTy0_1 (i : Nat) : BufTy := match i % 128 with
  | 0 => ⟨S2097152x3, .f32⟩
  | 1 => ⟨S2097152x3, .f32⟩
  | 2 => ⟨S2097152x3, .f32⟩
  | 3 => ⟨S_, .f32⟩
  | 4 => ⟨S2097152x3, .f32⟩
  | 5 => ⟨S2097152x3, .f32⟩
  | 6 => ⟨S2097152x3, .f32⟩
  | 7 => ⟨S_, .f32⟩
  | 8 => ⟨S2097152x3, .f32⟩
  | 9 => ⟨S2097152x3, .f32⟩
  | 10 => ⟨S2097152x3, .f32⟩
  | 11 => ⟨S2097152x3, .i1⟩
  | 12 => ⟨S_, .f32⟩
  | 13 => ⟨S2097152x3, .f32⟩
  | 14 => ⟨S2097152x3, .f32⟩
  | 15 => ⟨S2097152x3, .f32⟩
  | 16 => ⟨S_, .f32⟩
  | 17 => ⟨S2097152x3, .f32⟩
  | 18 => ⟨S2097152x3, .i1⟩
  | 19 => ⟨S_, .f32⟩
  | 20 => ⟨S2097152x3, .f32⟩
  | 21 => ⟨S2097152x3, .f32⟩
  | 22 => ⟨S2097152x3, .f32⟩
  | 23 => ⟨S_, .f32⟩
  | 24 => ⟨S2097152x3, .f32⟩
  | 25 => ⟨S2097152x3, .i1⟩
  | 26 => ⟨S2097152x3, .f32⟩
  | 27 => ⟨S2097152x3, .f32⟩
  | 28 => ⟨S_, .f32⟩
  | 29 => ⟨S2097152x3, .f32⟩
  | 30 => ⟨S2097152x3, .f32⟩
  | 31 => ⟨S_, .f32⟩
  | 32 => ⟨S2097152x3, .f32⟩
  | 33 => ⟨S2097152x3, .f32⟩
  | 34 => ⟨S1x2097152x3, .f32⟩
  | 35 => ⟨S1x2097152x3, .f32⟩
  | 36 => ⟨S1x2097152x3, .f32⟩
  | 37 => ⟨S3x2097152x3, .f32⟩
  | _ => ⟨S2097152x3, .f32⟩

abbrev hbmTy (i : Nat) : BufTy := match i / 128 with
  | 0 => hbmTy0_0 i
  | 1 => hbmTy0_1 i
  | _ => ⟨S2097152x3, .f32⟩

abbrev bufTy : (tb : Table) → Fin (tcTables nBuf tb) → BufTy
  | .hbm, ⟨i, _⟩ => hbmTy i
  | _, _ => ⟨S2097152x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_9 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_10 : Ref sig .tc := ⟨.hbm, 47, rfl⟩
abbrev main_v31 : Ref sig .tc := ⟨.hbm, 48, rfl⟩
abbrev main_v32 : Ref sig .tc := ⟨.hbm, 49, rfl⟩
abbrev main_cst_11 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_12 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_13 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_14 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_15 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_16 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_17 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_18 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_call0_c : Ref sig .tc := ⟨.hbm, 82, rfl⟩
abbrev main_call0_v0 : Ref sig .tc := ⟨.hbm, 83, rfl⟩
abbrev main_call0_v1 : Ref sig .tc := ⟨.hbm, 84, rfl⟩
abbrev main_call0_c_0 : Ref sig .tc := ⟨.hbm, 85, rfl⟩
abbrev main_call0_v2 : Ref sig .tc := ⟨.hbm, 86, rfl⟩
abbrev main_call0_v3 : Ref sig .tc := ⟨.hbm, 87, rfl⟩
abbrev main_call0_v4 : Ref sig .tc := ⟨.hbm, 88, rfl⟩
abbrev main_call0_v5 : Ref sig .tc := ⟨.hbm, 89, rfl⟩
abbrev main_call0_c_1 : Ref sig .tc := ⟨.hbm, 90, rfl⟩
abbrev main_call0_c_2 : Ref sig .tc := ⟨.hbm, 91, rfl⟩
abbrev main_call0_v6 : Ref sig .tc := ⟨.hbm, 92, rfl⟩
abbrev main_call0_v7 : Ref sig .tc := ⟨.hbm, 93, rfl⟩
abbrev main_call0_v8 : Ref sig .tc := ⟨.hbm, 94, rfl⟩
abbrev main_call0_v9 : Ref sig .tc := ⟨.hbm, 95, rfl⟩
abbrev main_call0_v10 : Ref sig .tc := ⟨.hbm, 96, rfl⟩
abbrev main_call0_v11 : Ref sig .tc := ⟨.hbm, 97, rfl⟩
abbrev main_call0_c_3 : Ref sig .tc := ⟨.hbm, 98, rfl⟩
abbrev main_call0_v12 : Ref sig .tc := ⟨.hbm, 99, rfl⟩
abbrev main_call0_v13 : Ref sig .tc := ⟨.hbm, 100, rfl⟩
abbrev main_call0_cst : Ref sig .tc := ⟨.hbm, 101, rfl⟩
abbrev main_call0_v14 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_cst_19 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_cst_20 : Ref sig .tc := ⟨.hbm, 120, rfl⟩
abbrev main_v73 : Ref sig .tc := ⟨.hbm, 121, rfl⟩
abbrev main_v74 : Ref sig .tc := ⟨.hbm, 122, rfl⟩
abbrev main_cst_21 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_cst_22 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_cst_23 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_cst_24 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_cst_25 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_cst_26 : Ref sig .tc := ⟨.hbm, 144, rfl⟩
abbrev main_v91 : Ref sig .tc := ⟨.hbm, 145, rfl⟩
abbrev main_v92 : Ref sig .tc := ⟨.hbm, 146, rfl⟩
abbrev main_cst_27 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_cst_28 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_cst_29 : Ref sig .tc := ⟨.hbm, 156, rfl⟩
abbrev main_v100 : Ref sig .tc := ⟨.hbm, 157, rfl⟩
abbrev main_v101 : Ref sig .tc := ⟨.hbm, 158, rfl⟩
abbrev main_cst_30 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩

abbrev nD : Nat := 1
abbrev τ : Topo := Topo.v7x

variable {F : FTy → Type} [FloatOps F]
-- ==== Proof.Words.lean ====
/- The words of the SparseCore kernel: what its address and flag arithmetic comes to, in closed form. Before trip `k`
   of its outer loop the five carried words are fixed by `k` alone; every offset and every flag the body computes from
   them is then decided over all tiles and trips. -/
module

public import proofs.«01_k».proof.Proof.Gen.KernelIdeal
public import Idealize.ShloMosaic.Lib.Decide

@[expose] public section

namespace Cert.Proof.KI

open Cert.KernelIdeal Idealize.ShloMosaic

/-- The outer loop makes 32 trips. -/
theorem trips1 : k0_t1_loop.trips = 32 := by decide +kernel
/-- The inner loop makes 128 trips. -/
theorem trips2 : k0_t2_loop.trips = 128 := by decide +kernel

/-- Block `k` of tile `i`, of the 1024 blocks of 2048 columns. -/
def blk (i : grid0.Coords) (k : ℕ) : ℕ := 32 * ((i 1).val + 16 * (i 0).val) + k

/-- The number of fetches issued before trip `k`, as the word carried. -/
def w7 (k : ℕ) : BitVec 32 := BitVec.ofNat 32 (min (k + 1) 32)
/-- The trip, as the word carried for the fetches waited for and for the blocks filled. -/
def w8 (k : ℕ) : BitVec 32 := BitVec.ofNat 32 k
/-- The number of write-outs waited for before trip `k`, as the word carried. -/
def w10 (k : ℕ) : BitVec 32 := BitVec.ofNat 32 (k - 1)
/-- The block index carried: the trip, 0 again after the last. -/
def w11 (k : ℕ) : BitVec 32 := BitVec.ofNat 32 (k % 32)

/-- The tile's first block, as the word the body computes. -/
def w4 (i : grid0.Coords) : BitVec 32 :=
  Scalar.muli (Scalar.addi (Scalar.addi 0#32 (Scalar.muli (BitVec.ofNat 32 (i 1).val) 1#32)) (Scalar.muli (BitVec.ofNat 32 (i 0).val) 16#32)) 32#32

/-! ## The offsets at the carried words -/

/-- The first fetch reads the tile's first block. -/
theorem off2_at : ∀ i : grid0.Coords, k0_off2 i = ![0, 2048 * blk i 0] := by decide +kernel
/-- The next fetch goes to the other slot. -/
theorem off4_at : ∀ k : Fin k0_t1_loop.trips, k.val < 31 → k0_off4 (w7 k.val) = ![(k.val + 1) % 2, 0, 0] := by decide +kernel
/-- The next fetch reads the next block. -/
theorem off5_at : ∀ (i : grid0.Coords) (k : Fin k0_t1_loop.trips), k.val < 31 → k0_off5 i (w11 k.val) = ![0, 2048 * blk i (k.val + 1)] := by decide +kernel
/-- The next fetch signals the other slot's semaphore. -/
theorem off6_at : ∀ k : Fin k0_t1_loop.trips, k.val < 31 → k0_off6 (w7 k.val) = ![(k.val + 1) % 2] := by decide +kernel
/-- The fetch waited for is the one to this iteration's slot, -/
theorem off7_at : ∀ k : Fin k0_t1_loop.trips, k0_off7 (w8 k.val) = ![k.val % 2, 0, 0] := by decide +kernel
/-- of this iteration's block, -/
theorem off8_at : ∀ (i : grid0.Coords) (k : Fin k0_t1_loop.trips), k0_off8 i (w11 k.val) = ![0, 2048 * blk i k.val] := by decide +kernel
/-- on this slot's semaphore. -/
theorem off9_at : ∀ k : Fin k0_t1_loop.trips, k0_off9 (w8 k.val) = ![k.val % 2] := by decide +kernel
/-- The indices used are those of this iteration's slot. -/
theorem off10_at : ∀ k : Fin k0_t1_loop.trips, k0_off10 (w8 k.val) = ![k.val % 2, 0, 0] := by decide +kernel
/-- The rows written are those of this iteration's slot. -/
theorem off12_at : ∀ k : Fin k0_t1_loop.trips, k0_off12 (w8 k.val) = ![k.val % 2, 0, 0] := by decide +kernel
/-- The rows sent are those of this iteration's slot, -/
theorem off14_at : ∀ k : Fin k0_t1_loop.trips, k0_off14 (w8 k.val) = ![k.val % 2, 0, 0] := by decide +kernel
/-- to this iteration's block, -/
theorem off15_at : ∀ (i : grid0.Coords) (k : Fin k0_t1_loop.trips), k0_off15 i (w11 k.val) = ![0, 2048 * blk i k.val] := by decide +kernel
/-- with this slot's semaphore. -/
theorem off16_at : ∀ k : Fin k0_t1_loop.trips, k0_off16 (w8 k.val) = ![k.val % 2] := by decide +kernel
/-- The send waited for is the one from the other slot, -/
theorem off17_at : ∀ k : Fin k0_t1_loop.trips, 0 < k.val → k0_off17 (w10 k.val) = ![(k.val + 1) % 2, 0, 0] := by decide +kernel
/-- to the block before this one, -/
theorem off18_at : ∀ (i : grid0.Coords) (k : Fin k0_t1_loop.trips), 0 < k.val → k0_off18 i (w11 k.val) = ![0, 2048 * blk i (k.val - 1)] := by decide +kernel
/-- on the other slot's semaphore. -/
theorem off19_at : ∀ k : Fin k0_t1_loop.trips, 0 < k.val → k0_off19 (w10 k.val) = ![(k.val + 1) % 2] := by decide +kernel
/-- The last send waited for goes to the last block, -/
theorem off21_at : ∀ i : grid0.Coords, k0_off21 i (w11 32) = ![0, 2048 * blk i 31] := by decide +kernel
/-- on the second slot's semaphore, -/
theorem off22_at : k0_off22 (w10 32) = ![1] := by decide +kernel
/-- from the second slot. -/
theorem off23_at : k0_off23 (w10 32) = ![1, 0, 0] := by decide +kernel

/-! ## The flags at the carried words -/

/-- A next block is fetched in every iteration but the last. -/
theorem cond1_at : ∀ (i : grid0.Coords) (k : Fin k0_t1_loop.trips), k0_cond1 i k (w11 k.val) = 1#1 ↔ k.val < 31 := by decide +kernel
/-- Every iteration waits for its block of indices. -/
theorem cond2_at : ∀ (i : grid0.Coords) (k : Fin k0_t1_loop.trips), k0_cond2 i k (w11 k.val) = 1#1 := by decide +kernel
/-- Every iteration sends its block of rows. -/
theorem cond5_at : ∀ (i : grid0.Coords) (k : Fin k0_t1_loop.trips), k0_cond5 i k (w11 k.val) = 1#1 := by decide +kernel
/-- A send is waited for in every iteration but the first. -/
theorem cond7_at : ∀ (i : grid0.Coords) (k : Fin k0_t1_loop.trips), k0_cond7 i k (w11 k.val) = 1#1 ↔ 0 < k.val := by decide +kernel

/-! ## The side conditions at the carried words -/

/-- The slot read lies within its buffer. -/
theorem chk4_at : ∀ k : Fin k0_t1_loop.trips, k0_chk4 (w8 k.val) := by decide +kernel
/-- The slot written lies within its buffer. -/
theorem chk2_at : ∀ k : Fin k0_t1_loop.trips, k0_chk2 (w8 k.val) := by decide +kernel
/-- An iteration's blocks and slots lie within their arrays. -/
theorem chk1_at : ∀ (i : grid0.Coords) (k : Fin k0_t1_loop.trips), k0_chk1 i k (w7 k.val) (w8 k.val) (w8 k.val) (w10 k.val) (w11 k.val) := by decide +kernel
/-- The last block lies within its array. -/
theorem chk6_at : ∀ i : grid0.Coords, k0_chk6 i (w11 32) := by decide +kernel
/-- The last slot lies within its buffer. -/
theorem chk5_at : k0_chk5 (w10 32) := by decide +kernel

/-! ## The words a trip hands on -/

/-- The next step's index and the last step's, around the end. -/
def sNext (k : ℕ) : BitVec 32 :=
  Scalar.select (Scalar.cmpi .eq (Scalar.select 1#1 (Scalar.addi (w11 k) 1#32) (w11 k)) 32#32) 0#32 (Scalar.select 1#1 (Scalar.addi (w11 k) 1#32) (w11 k))
/-- The step before, cyclically, as the loop computes it. -/
def sPrev (k : ℕ) : BitVec 32 :=
  Scalar.select (Scalar.cmpi .eq (Scalar.select 1#1 (Scalar.subi (w11 k) 1#32) (w11 k)) 4294967295#32) 31#32 (Scalar.select 1#1 (Scalar.subi (w11 k) 1#32) (w11 k))

/-- The count of fetches begun, carried to the next iteration. -/
theorem next7 : ∀ (i : grid0.Coords) (k : Fin k0_t1_loop.trips),
    Scalar.select (Scalar.andi (Scalar.andi (Scalar.cmpi .ne (Scalar.addi (w11 k.val) (w4 i)) (Scalar.addi (sNext k.val) (w4 i)))
      (Scalar.xori (Scalar.cmpi .sge (Scf.iv 0#32 1#32 k.val) 31#32) 1#1)) 1#1) (Scalar.addi (w7 k.val) 1#32) (w7 k.val) = w7 (k.val + 1) := by decide +kernel
/-- The count of fetches waited for, carried to the next iteration. -/
theorem next8 : ∀ (i : grid0.Coords) (k : Fin k0_t1_loop.trips),
    Scalar.select (Scalar.ori (Scalar.cmpi .ne (Scalar.addi (w11 k.val) (w4 i)) (Scalar.addi (sNext k.val) (w4 i)))
      (Scalar.cmpi .eq (Scf.iv 0#32 1#32 k.val) 31#32)) (Scalar.addi (w8 k.val) 1#32) (w8 k.val) = w8 (k.val + 1) := by decide +kernel
/-- The count of sends begun, carried to the next iteration. -/
theorem next9 : ∀ (i : grid0.Coords) (k : Fin k0_t1_loop.trips),
    Scalar.select (Scalar.andi (Scalar.ori (Scalar.cmpi .ne (Scalar.addi (w11 k.val) (w4 i)) (Scalar.addi (sNext k.val) (w4 i)))
      (Scalar.cmpi .eq (Scf.iv 0#32 1#32 k.val) 31#32)) 1#1) (Scalar.addi (w8 k.val) 1#32) (w8 k.val) = w8 (k.val + 1) := by decide +kernel
/-- The count of sends waited for, carried to the next iteration. -/
theorem next10 : ∀ (i : grid0.Coords) (k : Fin k0_t1_loop.trips),
    Scalar.select (Scalar.andi (Scalar.andi (Scalar.cmpi .ne (Scalar.addi (w11 k.val) (w4 i)) (Scalar.addi (sPrev k.val) (w4 i)))
      (Scalar.xori (Scalar.cmpi .eq (Scf.iv 0#32 1#32 k.val) 0#32) 1#1)) 1#1) (Scalar.addi (w10 k.val) 1#32) (w10 k.val) = w10 (k.val + 1) := by decide +kernel
/-- The step, carried to the next iteration. -/
theorem next11 : ∀ k : Fin k0_t1_loop.trips, sNext k.val = w11 (k.val + 1) := by decide +kernel

end Cert.Proof.KI

end
-- ==== Proof.Base.lean ====
/- The program as the launch of its SparseCore call sees it: the configuration, the resource algebra, and the names of
   the buffers, memrefs and semaphores the tiles use. -/
module

public import proofs.«01_k».proof.Defs
public import proofs.«01_k».proof.Proof.Words
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

/-- The labels of the lifted program. -/
abbrev ΛP : Labels := Pipeline.Sig Λ₀ (Fin 1) fun p => (pcfgs (F := F) p).Adm
/-- The SparseCore configuration: one call on two cores of sixteen tiles. -/
abbrev K : SparseCore.Cfg τ sig (ΛP (F := F)) 1 := sc (F := F)
/-- The call runs 16 tiles on each SparseCore. -/
theorem nSub_zero : (K (F := F)).nSub 0 = 16 := rfl
/-- The call runs on two SparseCores. -/
theorem nCore_zero : (K (F := F)).nCore 0 = 2 := rfl
/-- The program's definitions, the pipelined region's included. -/
abbrev D : Defs nD τ sig (Elt F) (ΛP (F := F)) := Pipeline.defs pcfgs defs₀
/-- No loop variant is needed in the kernels. -/
abbrev 𝒱₀ : Variants := Variants.none
/-- The variants of the whole program. -/
abbrev 𝒱 : Variants := 𝒱₀.lift
/-- The variant a body starts at. -/
abbrev v₀ : 𝒱.V := Sum.inl none

/-- The configuration's static facts. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The algebra: the handshakes' rounds, the pipeline's rounds and the transfers' counters. -/
abbrev UH : Type := URounds (GSem nD τ sig) ℕ
/-- Ghost state of the region's rounds. -/
abbrev UQ : Type := URounds (GSem nD τ sig) Unit
/-- The proof's ghost state: the handshakes, the rounds, the counters. -/
abbrev UU : Type := UH × UQ × Counters

local notation "𝕄" => MT nD τ sig (HIx 1) (Elt F) ℕ UU ℕ

/-- The handshakes' part of the ghost state. -/
abbrev EH : Emb UH (MT nD τ sig (HIx 1) (Elt F) ℕ UU ℕ) := embL
/-- The transfers' counters in the algebra. -/
abbrev EC : UEmb Counters (MT nD τ sig (HIx 1) (Elt F) ℕ UU ℕ) := countersEmb

/-! ## The tile's thread, memrefs and semaphores -/

/-- The SparseCore of a tile's coordinates. -/
abbrev cV (L : grid0.Coords) : Fin τ.nSC := (L 0).castLE hcore0
/-- The tile's number on its SparseCore. -/
abbrev jV (L : grid0.Coords) : Fin τ.nSub := (L 1).castLE hsub0
/-- The thread of tile `L`. -/
abbrev thr (d : Dev nD) (L : grid0.Coords) : Thread nD τ := V d (cV L) (jV L)

/-- The indices, the table and the result in HBM, as a tile names them. -/
abbrev tM : Memref sig .scVector .hbm S1x2097152 .i32 := Memref.whole main_v1_scv
/-- The table, as a tile sees it. -/
abbrev kM : Memref sig .scVector .hbm S100 .f32 := Memref.whole main_v0_scv
/-- The gathered rows, as a tile sees them. -/
abbrev aM : Memref sig .scVector .hbm S1x2097152 .f32 := Memref.whole main_v2_scv
/-- The tile's copy of the table, its two index slots and its two result slots. -/
abbrev cM : Memref sig .scVector .vmem S100 .f32 := Memref.whole cc0_scratch0
/-- The index buffer's two slots. -/
abbrev iM : Memref sig .scVector .vmem S2x1x2048 .i32 := Memref.whole cc0_scoped1
/-- The row buffer's two slots. -/
abbrev oM : Memref sig .scVector .vmem S2x1x2048 .f32 := Memref.whole cc0_scoped3

/-- A block of 2048 lies within the array. -/
theorem inbB (n : Fin 1024) : ∀ a, (![0, 2048 * n.val] : Fin 2 → ℕ) a + S1x2048.size a ≤ S1x2097152.size a := by
  intro a
  match a with
  | 0 => show 0 + 1 ≤ 1; omega
  | 1 => show 2048 * n.val + 2048 ≤ 2097152; omega
/-- A slot lies within its buffer. -/
theorem inbS (s : Fin 2) : ∀ a, (![s.val, 0, 0] : Fin 3 → ℕ) a + S1x1x2048.size a ≤ S2x1x2048.size a := by
  revert s; decide
/-- A slot's semaphore lies within its array. -/
theorem inbC (s : Fin 2) : ∀ a, (![s.val] : Fin 1 → ℕ) a + S1.size a ≤ S2.size a := by
  revert s; decide

/-- Column block `n` of the HBM arrays. -/
abbrev bRect (n : Fin 1024) : Rect S1x2097152 := Rect.unit (s := S1x2097152) ![0, 2048 * n.val] S1x2048.size (inbB n)
/-- Block `n` of the indices. -/
abbrev tB (n : Fin 1024) : Memref sig .scVector .hbm S1x2048 .i32 := tM.slice (bRect n) (fun _ => rfl)
/-- Block `n` of the gathered rows. -/
abbrev aB (n : Fin 1024) : Memref sig .scVector .hbm S1x2048 .f32 := aM.slice (bRect n) (fun _ => rfl)
/-- Slot `s` of the double buffers. -/
abbrev sRect (s : Fin 2) : Rect S2x1x2048 := Rect.unit (s := S2x1x2048) ![s.val, 0, 0] S1x1x2048.size (inbS s)
/-- Slot `s` of the index buffer. -/
abbrev iS (s : Fin 2) : Memref sig .scVector .vmem S1x2048 .i32 := (iM.slice (sRect s) (fun _ => rfl)).squeeze S1x2048 squeezes_S1x1x2048_S1x2048
/-- Slot `s` of the row buffer. -/
abbrev oS (s : Fin 2) : Memref sig .scVector .vmem S1x2048 .f32 := (oM.slice (sRect s) (fun _ => rfl)).squeeze S1x2048 squeezes_S1x1x2048_S1x2048
/-- The DMA semaphore of slot `s`. -/
abbrev slotSem (A : DmaSems sig S2) (s : Fin 2) : DmaSem sig :=
  ((A.slice (Rect.unit (s := S2) ![s.val] S1.size (inbC s))).squeeze S_ squeezes_S1_S_).sem

end Cert.Proof.KI

end

end
-- ==== Proof.Tile.lean ====
/- One tile's memory, as its pipeline holds it, and the four kinds of step that move data: fetch issued, fetch waited
   for, write-out issued, write-out waited for. -/
module

public import proofs.«01_k».proof.Proof.Base

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]
local notation "𝕄" => MT nD τ sig (HIx 1) (Elt F) ℕ UU ℕ

/-- The table index a word names (taken modulo the table's length, which the precondition makes no difference). -/
def kIx (w : BitVec 32) : S100.Idx := fun a => ⟨w.toNat % 100, by match a with | 0 => exact Nat.mod_lt _ (by omega)⟩

/-- The rows gathered: the table's element at each index. -/
def gath (kap : S100.Idx → Elt F .f32) (tt : S1x2097152.Idx → Elt F .i32) : S1x2097152.Idx → Elt F .f32 :=
  fun x => kap (kIx (tt x))

section Tile

variable (kap : S100.Idx → Elt F .f32) (tt a0 : S1x2097152.Idx → Elt F .i32)
variable (d : Dev nD) (L : grid0.Coords)

/-- Column block `n` of the indices, held outright. -/
def tP (tt : S1x2097152.Idx → Elt F .i32) (n : Fin 1024) : sProp 𝕄 :=
  (tB n).view.loc (thr d L) ↦[(tB n).view.set]{fullShare} tt
/-- Column block `n` of the result, held outright at contents `f`. -/
def aP (f : S1x2097152.Idx → Elt F .f32) (n : Fin 1024) : sProp 𝕄 :=
  (aB n).view.loc (thr d L) ↦[(aB n).view.set]{fullShare} f
/-- Index slot `s`, at any contents. -/
def iFree (s : Fin 2) : sProp 𝕄 :=
  iprop(∃ f, (iS s).view.loc (thr d L) ↦[(iS s).view.set]{fullShare} f)
/-- Index slot `s`, holding block `n` of the indices. -/
def iHas (tt : S1x2097152.Idx → Elt F .i32) (n : Fin 1024) (s : Fin 2) : sProp 𝕄 :=
  iprop(∃ f, ⌜(iS s).view.read (Elt F) f = (tB n).view.read (Elt F) tt⌝ ∗ (iS s).view.loc (thr d L) ↦[(iS s).view.set]{fullShare} f)
/-- Result slot `s`, at any contents. -/
def oFree (s : Fin 2) : sProp 𝕄 :=
  iprop(∃ f, (oS s).view.loc (thr d L) ↦[(oS s).view.set]{fullShare} f)
/-- Result slot `s`, its first `c` columns holding block `n`'s gathered rows. -/
def oHas (gg : S1x2097152.Idx → Elt F .f32) (n : Fin 1024) (s : Fin 2) (c : ℕ) : sProp 𝕄 :=
  iprop(∃ f, ⌜∀ x : S1x2048.Idx, (x 1).val < c → (oS s).view.read (Elt F) f x = (aB n).view.read (Elt F) gg x⌝
    ∗ (oS s).view.loc (thr d L) ↦[(oS s).view.set]{fullShare} f)

/-- The cells of slot `s`'s fetch and write-out. -/
abbrev iC (s : Fin 2) : SemLoc sig := .dma (slotSem cc0_scoped2 s)
/-- The semaphore of a row slot. -/
abbrev oC (s : Fin 2) : SemLoc sig := .dma (slotSem cc0_scoped4 s)

/-- The fetch of block `n` into slot `s`, in flight. -/
def iFly (tt : S1x2097152.Idx → Elt F .i32) (n : Fin 1024) (s : Fin 2) : sProp 𝕄 :=
  Transfers.Flight EC (thr d L) (iC s) default ((iS s).view.amount (iC s)) iprop(iHas d L tt n s ∗ tP d L tt n)
/-- The write-out of block `n` from slot `s`, in flight. -/
def oFly (gg : S1x2097152.Idx → Elt F .f32) (n : Fin 1024) (s : Fin 2) : sProp 𝕄 :=
  Transfers.Flight EC (thr d L) (oC s) default ((aB n).view.amount (oC s)) iprop(aP d L gg n ∗ oFree d L s)

/-- What the tile owes, after waits at index `none` only. -/
def owesN (O : CellTallies nD τ sig (HIx 1)) : sProp 𝕄 := iprop(∃ W', owes (thr d L) O W')

/-- What a fetch leaves in its slot is the block it read. -/
theorem fetch_deliver (n : Fin 1024) (s : Fin 2) (f : Buf (Elt F) ((iS s).view.loc (thr d L))) :
    iprop(((iS s).view.loc (thr d L) ↦[(iS s).view.set]{fullShare}
        ((iS s).view.write (Elt F) f (ReadAs.same.apply ((tB n).view.read (Elt F) tt)) Finset.univ))
      ∗ ((tB n).view.loc (thr d L) ↦[(tB n).view.set]{fullShare} tt))
      ⊢ (iprop(iHas d L tt n s ∗ tP d L tt n) : sProp 𝕄) := by
  unfold iHas tP
  iintro ⟨Hs, Ht⟩
  isplitl [Hs]
  · iexists ((iS s).view.write (Elt F) f (ReadAs.same.apply ((tB n).view.read (Elt F) tt)) Finset.univ)
    isplitr
    · ipureintro; exact View.read_write_univ _ _
    · iexact Hs
  · iexact Ht

/-- What a write-out leaves in its block is what the slot held, wherever the block was before. -/
theorem out_deliver (gg : S1x2097152.Idx → Elt F .f32) (n : Fin 1024) (s : Fin 2) (fa : S1x2097152.Idx → Elt F .f32)
    (f : Buf (Elt F) ((oS s).view.loc (thr d L)))
    (hf : ∀ x : S1x2048.Idx, (oS s).view.read (Elt F) f x = (aB n).view.read (Elt F) gg x) :
    iprop(((aB n).view.loc (thr d L) ↦[(aB n).view.set]{fullShare}
        ((aB n).view.write (Elt F) fa (ReadAs.same.apply ((oS s).view.read (Elt F) f)) Finset.univ))
      ∗ ((oS s).view.loc (thr d L) ↦[(oS s).view.set]{fullShare} f))
      ⊢ (iprop(aP d L gg n ∗ oFree d L s) : sProp 𝕄) := by
  have e : ((aB n).view.loc (thr d L) ↦[(aB n).view.set]{fullShare}
        ((aB n).view.write (Elt F) fa (ReadAs.same.apply ((oS s).view.read (Elt F) f)) Finset.univ) : sProp 𝕄)
      = ((aB n).view.loc (thr d L) ↦[(aB n).view.set]{fullShare} gg) := by
    refine pointsTo_congr ?_
    intro y hy
    obtain ⟨x, -, rfl⟩ := Finset.mem_map.mp hy
    rw [View.write_emb_of_mem _ _ (Finset.mem_univ _)]
    exact hf x
  unfold aP oFree
  iintro ⟨Ha, Hs⟩
  isplitl [Ha]
  · iapply (Entails.of_eq e); iexact Ha
  · iexists _; iexact Hs

/-- A fetch issued: block `n` and a free slot go into flight. -/
theorem fetch_start (n : Fin 1024) (s : Fin 2) {o5 : Fin 2 → ℕ} {o4 : Fin 3 → ℕ} {o6 : Fin 1 → ℕ}
    (h5 : ∀ a, o5 a + S1x2048.size a ≤ S1x2097152.size a) (h4 : ∀ a, o4 a + S1x1x2048.size a ≤ S2x1x2048.size a)
    (h6 : ∀ a, o6 a + S1.size a ≤ S2.size a) (e5 : o5 = ![0, 2048 * n.val]) (e4 : o4 = ![s.val, 0, 0]) (e6 : o6 = ![s.val])
    {w1 : _} {w2 : _} {w3 : _} {Q : PUnit → sProp 𝕄} :
    iprop(tP d L tt n ∗ iFree d L s ∗ semVal (thr d L, iC s) 0 ∗ (iFly d L tt n s -∗ Q ⟨⟩))
      ⊢ wp frame (wpE (defs₀ (F := F)) 𝒱₀ (thr d L) none) Set.univ
          (Prog.lift (.enqueueDma (tM.slice (Rect.unit (s := S1x2097152) o5 S1x2048.size h5) (fun _ => rfl))
            (.here ((iM.slice (Rect.unit (s := S2x1x2048) o4 S1x1x2048.size h4) (fun _ => rfl)).squeeze S1x2048 squeezes_S1x1x2048_S1x2048))
            (.dma ((cc0_scoped2.slice (Rect.unit (s := S2) o6 S1.size h6)).squeeze S_ squeezes_S1_S_).sem) w1 w2 w3)) Q := by
  subst e5 e4 e6
  unfold tP iFree iFly
  iintro ⟨Ht, ⟨%f, Hs⟩, Hv, HQ⟩
  iapply (Transfers.wp_dmaLocal EC 𝒱₀ (thr d L) none (src := tB n) (dst := iS s) (sm := iC s) default ((iS s).view.amount (iC s)) rfl
    (View.amount_pos _ _ (show 0 < S1x2048.numel by decide)) (Finset.Subset.refl _)) $$ [Ht Hs Hv]
  · isplitl [Ht]; · iexact Ht
    isplitl [Hs]; · iexact Hs
    iexact Hv
  iintro Hf
  rw [wp_ret]
  imodintro
  iapply HQ
  iapply (Transfers.Flight_mono EC (thr d L) (fetch_deliver tt d L n s f))
  iexact Hf

/-- A fetch waited for: the slot holds its block, the cell is at zero again. -/
theorem fetch_wait (n : Fin 1024) (s : Fin 2) {o8 : Fin 2 → ℕ} {o7 : Fin 3 → ℕ} {o9 : Fin 1 → ℕ}
    (h8 : ∀ a, o8 a + S1x2048.size a ≤ S1x2097152.size a) (h7 : ∀ a, o7 a + S1x1x2048.size a ≤ S2x1x2048.size a)
    (h9 : ∀ a, o9 a + S1.size a ≤ S2.size a) (e7 : o7 = ![s.val, 0, 0]) (e9 : o9 = ![s.val])
    {w1 : _} {w2 : _} {O : CellTallies nD τ sig (HIx 1)} {Q : PUnit → sProp 𝕄} :
    iprop(Transfers.MayWaits (thr d L) (default : HIx 1) O ∗ iFly d L tt n s ∗ owesN d L O
        ∗ (iprop(iHas d L tt n s ∗ tP d L tt n ∗ semVal (thr d L, iC s) 0 ∗ owesN d L O) -∗ Q ⟨⟩))
      ⊢ wp frame (wpE (defs₀ (F := F)) 𝒱₀ (thr d L) none) Set.univ
          (Prog.lift (.waitDma2 ((cc0_scoped2.slice (Rect.unit (s := S2) o9 S1.size h9)).squeeze S_ squeezes_S1_S_).sem
            (tM.slice (Rect.unit (s := S1x2097152) o8 S1x2048.size h8) (fun _ => rfl))
            ((iM.slice (Rect.unit (s := S2x1x2048) o7 S1x1x2048.size h7) (fun _ => rfl)).squeeze S1x2048 squeezes_S1x1x2048_S1x2048) w1 w2)) Q := by
  subst e7 e9
  unfold iFly owesN
  iintro ⟨#Hmw, Hf, ⟨%W', HO⟩, HQ⟩
  ihave Hw := (Transfers.MayWaits.elim (c := thr d L) (ι := (default : HIx 1)) (O := O) (iC s)) $$ Hmw
  iapply (Transfers.wp_waitLocalO EC 𝒱₀ (thr d L) none (dstw := iS s) default (N := (iS s).view.amount (iC s)) rfl) $$ [Hf HO Hw]
  · isplitl [Hf]; · iexact Hf
    isplitl [HO]; · iexact HO
    iexact Hw
  iintro ⟨⟨Hs, Ht⟩, Hv, HO⟩
  rw [wp_ret]
  imodintro
  iapply HQ
  isplitl [Hs]; · iexact Hs
  isplitl [Ht]; · iexact Ht
  isplitl [Hv]; · iexact Hv
  iexists _; iexact HO

/-- A write-out issued: a filled slot and its block go into flight. -/
theorem out_start (gg fa : S1x2097152.Idx → Elt F .f32) (n : Fin 1024) (s : Fin 2) {o15 : Fin 2 → ℕ} {o14 : Fin 3 → ℕ} {o16 : Fin 1 → ℕ}
    (h15 : ∀ a, o15 a + S1x2048.size a ≤ S1x2097152.size a) (h14 : ∀ a, o14 a + S1x1x2048.size a ≤ S2x1x2048.size a)
    (h16 : ∀ a, o16 a + S1.size a ≤ S2.size a) (e15 : o15 = ![0, 2048 * n.val]) (e14 : o14 = ![s.val, 0, 0]) (e16 : o16 = ![s.val])
    {w1 : _} {w2 : _} {w3 : _} {Q : PUnit → sProp 𝕄} :
    iprop(oHas d L gg n s 2048 ∗ aP d L fa n ∗ semVal (thr d L, oC s) 0 ∗ (oFly d L gg n s -∗ Q ⟨⟩))
      ⊢ wp frame (wpE (defs₀ (F := F)) 𝒱₀ (thr d L) none) Set.univ
          (Prog.lift (.enqueueDma ((oM.slice (Rect.unit (s := S2x1x2048) o14 S1x1x2048.size h14) (fun _ => rfl)).squeeze S1x2048 squeezes_S1x1x2048_S1x2048)
            (.here (aM.slice (Rect.unit (s := S1x2097152) o15 S1x2048.size h15) (fun _ => rfl)))
            (.dma ((cc0_scoped4.slice (Rect.unit (s := S2) o16 S1.size h16)).squeeze S_ squeezes_S1_S_).sem) w1 w2 w3)) Q := by
  subst e15 e14 e16
  unfold oHas aP oFly
  iintro ⟨⟨%f, %hf, Hs⟩, Ha, Hv, HQ⟩
  have hf' : ∀ x : S1x2048.Idx, (oS s).view.read (Elt F) f x = (aB n).view.read (Elt F) gg x := fun x => hf x (x 1).isLt
  iapply (Transfers.wp_dmaLocal EC 𝒱₀ (thr d L) none (src := oS s) (dst := aB n) (sm := oC s) default ((aB n).view.amount (oC s)) rfl
    (View.amount_pos _ _ (show 0 < S1x2048.numel by decide)) (Finset.Subset.refl _)) $$ [Ha Hs Hv]
  · isplitl [Hs]; · iexact Hs
    isplitl [Ha]; · iexact Ha
    iexact Hv
  iintro Hf
  rw [wp_ret]
  imodintro
  iapply HQ
  iapply (Transfers.Flight_mono EC (thr d L) (out_deliver d L gg n s fa f hf'))
  iexact Hf

/-- A write-out waited for: the block holds its gathered rows, the slot is free and the cell at zero again. -/
theorem out_wait (gg : S1x2097152.Idx → Elt F .f32) (n : Fin 1024) (s : Fin 2) {o18 : Fin 2 → ℕ} {o17 : Fin 3 → ℕ} {o19 : Fin 1 → ℕ}
    (h18 : ∀ a, o18 a + S1x2048.size a ≤ S1x2097152.size a) (h17 : ∀ a, o17 a + S1x1x2048.size a ≤ S2x1x2048.size a)
    (h19 : ∀ a, o19 a + S1.size a ≤ S2.size a) (e18 : o18 = ![0, 2048 * n.val]) (e19 : o19 = ![s.val])
    {w1 : _} {w2 : _} {O : CellTallies nD τ sig (HIx 1)} {Q : PUnit → sProp 𝕄} :
    iprop(Transfers.MayWaits (thr d L) (default : HIx 1) O ∗ oFly d L gg n s ∗ owesN d L O
        ∗ (iprop(aP d L gg n ∗ oFree d L s ∗ semVal (thr d L, oC s) 0 ∗ owesN d L O) -∗ Q ⟨⟩))
      ⊢ wp frame (wpE (defs₀ (F := F)) 𝒱₀ (thr d L) none) Set.univ
          (Prog.lift (.waitDma2 ((cc0_scoped4.slice (Rect.unit (s := S2) o19 S1.size h19)).squeeze S_ squeezes_S1_S_).sem
            ((oM.slice (Rect.unit (s := S2x1x2048) o17 S1x1x2048.size h17) (fun _ => rfl)).squeeze S1x2048 squeezes_S1x1x2048_S1x2048)
            (aM.slice (Rect.unit (s := S1x2097152) o18 S1x2048.size h18) (fun _ => rfl)) w1 w2)) Q := by
  subst e18 e19
  unfold oFly owesN
  iintro ⟨#Hmw, Hf, ⟨%W', HO⟩, HQ⟩
  ihave Hw := (Transfers.MayWaits.elim (c := thr d L) (ι := (default : HIx 1)) (O := O) (oC s)) $$ Hmw
  iapply (Transfers.wp_waitLocalO EC 𝒱₀ (thr d L) none (dstw := aB n) default (N := (aB n).view.amount (oC s)) rfl) $$ [Hf HO Hw]
  · isplitl [Hf]; · iexact Hf
    isplitl [HO]; · iexact HO
    iexact Hw
  iintro ⟨⟨Ha, Hs⟩, Hv, HO⟩
  rw [wp_ret]
  imodintro
  iapply HQ
  isplitl [Ha]; · iexact Ha
  isplitl [Hs]; · iexact Hs
  isplitl [Hv]; · iexact Hv
  iexists _; iexact HO

end Tile

end Cert.Proof.KI

end

end
-- ==== Proof.Inner.lean ====
/- The inner loop of a tile: one trip loads sixteen indices of the block, gathers sixteen rows of the table and stores
   them at the same columns of the result slot. -/
module

public import proofs.«01_k».proof.Proof.Tile
public import Idealize.ShloMosaic.Lib.Pipeline.Value

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]
local notation "𝕄" => MT nD τ sig (HIx 1) (Elt F) ℕ UU ℕ

section Tile

variable (kap : S100.Idx → Elt F .f32) (tt : S1x2097152.Idx → Elt F .i32)
variable (d : Dev nD) (L : grid0.Coords)

/-- The tile's own copy of the table. -/
def cP (kap : S100.Idx → Elt F .f32) : sProp 𝕄 :=
  cM.view.loc (thr d L) ↦{fullShare} kap

/-- A vector of 16 lies within its block. -/
theorem inbR (c : ℕ) (hc : c + 16 ≤ 2048) : ∀ a, (![0, c] : Fin 2 → ℕ) a + S1x16.size a ≤ S1x2048.size a := by
  intro a
  match a with
  | 0 => show 0 + 1 ≤ 1; omega
  | 1 => show c + 16 ≤ 2048; omega
/-- Sixteen columns of a block, from column `c`. -/
abbrev cRect (c : ℕ) (hc : c + 16 ≤ 2048) : Rect S1x2048 := Rect.unit (s := S1x2048) ![0, c] S1x16.size (inbR c hc)

/-- Sixteen of block `n`'s indices, from column `c`. -/
def tRow (tt : S1x2097152.Idx → Elt F .i32) (n : Fin 1024) (c : ℕ) (hc : c + 16 ≤ 2048) : Vec F S1x16 .i32 :=
  fun x => (tB n).view.read (Elt F) tt ((cRect c hc).emb x)

/-- Sixteen indices loaded from the slot are sixteen of the block's. -/
theorem load_idx (n : Fin 1024) (s : Fin 2) (c : ℕ) (hc : c + 16 ≤ 2048) {o10 : Fin 3 → ℕ} {o11 : Fin 2 → ℕ}
    (h10 : ∀ a, o10 a + S1x1x2048.size a ≤ S2x1x2048.size a) (h11 : ∀ a, o11 a + S1x16.size a ≤ S1x2048.size a)
    (e10 : o10 = ![s.val, 0, 0]) (e11 : o11 = ![0, c]) {hl : _} {Q : Vec F S1x16 .i32 → sProp 𝕄} :
    iprop(iHas d L tt n s ∗ (iHas d L tt n s -∗ Q (tRow tt n c hc)))
      ⊢ wp frame (wpE (defs₀ (F := F)) 𝒱₀ (thr d L) none) Set.univ
          (Prog.lift (.load ((iM.slice (Rect.unit (s := S2x1x2048) o10 S1x1x2048.size h10) (fun _ => rfl)).squeeze S1x2048 squeezes_S1x1x2048_S1x2048)
            (Rect.unit (s := S1x2048) o11 S1x16.size h11).toLoadRect hl)) Q := by
  subst e10 e11
  unfold iHas
  iintro ⟨⟨%f, %hf, Hs⟩, HQ⟩
  iapply (wp_load_rect 𝒱₀ (thr d L) none Set.univ (m := iS s) (r := cRect c hc) (View.set_slice_subset _ _)) $$ Hs
  iintro Hs
  rw [wp_ret]
  imodintro
  have e : ((iS s).access (cRect c hc)).read (Elt F) f = tRow tt n c hc := by
    funext x; exact congrFun hf ((cRect c hc).emb x)
  iapply (Entails.of_eq (congrArg Q e).symm)
  ihave HQ' := HQ $$ [Hs]
  · iexists f
    isplitr
    · ipureintro; exact hf
    · iexact Hs
  iexact HQ'

/-- A load of the result slot whose value nothing uses. -/
theorem load_dead (gg : S1x2097152.Idx → Elt F .f32) (n : Fin 1024) (s : Fin 2) (c : ℕ) {o12 : Fin 3 → ℕ} {o13 : Fin 2 → ℕ}
    (h12 : ∀ a, o12 a + S1x1x2048.size a ≤ S2x1x2048.size a) (h13 : ∀ a, o13 a + S1x16.size a ≤ S1x2048.size a)
    (e12 : o12 = ![s.val, 0, 0]) {hl : _} {Q : Vec F S1x16 .f32 → sProp 𝕄} :
    iprop(oHas d L gg n s c ∗ (∀ v, oHas d L gg n s c -∗ Q v))
      ⊢ wp frame (wpE (defs₀ (F := F)) 𝒱₀ (thr d L) none) Set.univ
          (Prog.lift (.load ((oM.slice (Rect.unit (s := S2x1x2048) o12 S1x1x2048.size h12) (fun _ => rfl)).squeeze S1x2048 squeezes_S1x1x2048_S1x2048)
            (Rect.unit (s := S1x2048) o13 S1x16.size h13).toLoadRect hl)) Q := by
  subst e12
  unfold oHas
  iintro ⟨⟨%f, %hf, Hs⟩, HQ⟩
  iapply (wp_load_rect 𝒱₀ (thr d L) none Set.univ (m := oS s) (r := Rect.unit (s := S1x2048) o13 S1x16.size h13) (View.set_slice_subset _ _)) $$ Hs
  iintro Hs
  rw [wp_ret]
  imodintro
  iapply HQ
  iexists f
  isplitr
  · ipureintro; exact hf
  · iexact Hs

/-- Sixteen gathered rows stored extend the filled prefix by sixteen columns. -/
theorem store_idx (gg : S1x2097152.Idx → Elt F .f32) (n : Fin 1024) (s : Fin 2) (c : ℕ) (hc : c + 16 ≤ 2048) {o12 : Fin 3 → ℕ} {o13 : Fin 2 → ℕ}
    (h12 : ∀ a, o12 a + S1x1x2048.size a ≤ S2x1x2048.size a) (h13 : ∀ a, o13 a + S1x16.size a ≤ S1x2048.size a)
    (e12 : o12 = ![s.val, 0, 0]) (e13 : o13 = ![0, c]) (w : Vec F S1x16 .f32)
    (hw : ∀ y : S1x16.Idx, w y = (aB n).view.read (Elt F) gg ((cRect c hc).emb y)) {hx : _} {hm : _} {Q : PUnit → sProp 𝕄} :
    iprop(oHas d L gg n s c ∗ (oHas d L gg n s (c + 16) -∗ Q ⟨⟩))
      ⊢ wp frame (wpE (defs₀ (F := F)) 𝒱₀ (thr d L) none) Set.univ
          (Prog.lift (.store ((oM.slice (Rect.unit (s := S2x1x2048) o12 S1x1x2048.size h12) (fun _ => rfl)).squeeze S1x2048 squeezes_S1x1x2048_S1x2048)
            (Rect.unit (s := S1x2048) o13 S1x16.size h13) w Finset.univ hx hm)) Q := by
  subst e12 e13
  unfold oHas
  iintro ⟨⟨%f, %hf, Hs⟩, HQ⟩
  iapply (wp_store 𝒱₀ (thr d L) none Set.univ (m := oS s) (r := cRect c hc) (View.set_slice_subset _ _)) $$ Hs
  iintro Hs
  rw [wp_ret]
  imodintro
  iapply HQ
  iexists (((oS s).access (cRect c hc)).write (Elt F) f w Finset.univ)
  isplitr
  · ipureintro
    intro x hx
    by_cases hm : x ∈ (cRect c hc).set
    · rw [← Rect.map_emb_univ] at hm
      obtain ⟨y, -, rfl⟩ := Finset.mem_map.mp hm
      exact (View.read_slice_write_emb (v := (oS s).view) (cRect c hc) f w (Finset.mem_univ y)).trans (hw y)
    · refine (View.read_slice_write_of_not_mem (v := (oS s).view) (cRect c hc) f w Finset.univ (by rwa [Rect.map_emb_univ])).trans (hf x ?_)
      by_contra hlt
      refine hm (Rect.mem_set_unit.mpr fun a => ?_)
      match a with
      | 0 => exact ⟨Nat.zero_le _, (x 0).isLt⟩
      | 1 => exact ⟨Nat.not_lt.mp hlt, hx⟩
  · iexact Hs

/-- The sixteen rows an indexed load takes from the table are the block's gathered rows. -/
theorem gath_rows (n : Fin 1024) (c : ℕ) (hc : c + 16 ≤ 2048) (hT : ∀ x, (tt x : BitVec 32).toNat < 100)
    (h : ∀ a x, ((![shapeCast S16 (tRow tt n c hc) shapeCasts_S1x16_S16] : Fin 1 → IVec S16 32) a x).toNat < S100.size a)
    (y : S1x16.Idx) :
    shapeCast S1x16 (loadIdx (F := F) (e := .f32) ((cM.access (.whole S100)).read (Elt F) kap)
        ![shapeCast S16 (tRow tt n c hc) shapeCasts_S1x16_S16] h) shapeCasts_S16_S1x16 y
      = (aB n).view.read (Elt F) (gath kap tt) ((cRect c hc).emb y) := by
  have e : shapeCast S1x16 (shapeCast S16 (tRow tt n c hc) shapeCasts_S1x16_S16) shapeCasts_S16_S1x16
      = tRow tt n c hc := Idealize.ShloMosaic.shapeCast_shapeCast _ _ _
  have e' := congrFun e y
  show ((cM.access (.whole S100)).read (Elt F) kap) _ = kap (kIx (tt ((tB n).view.emb ((cRect c hc).emb y))))
  show kap ((Rect.whole S100).emb _) = _
  refine congrArg kap ?_
  funext a
  match a with
  | 0 =>
    apply Fin.ext
    have hb := hT ((tB n).view.emb ((cRect c hc).emb y))
    rw [Rect.emb_whole_apply]
    refine (congrArg (fun w : BitVec 32 => w.toNat) e').trans ?_
    exact (Nat.mod_eq_of_lt hb).symm

/-- One trip of the inner loop: sixteen more columns of the block gathered. -/
theorem inner_trip (hT : ∀ x, (tt x : BitVec 32).toNat < 100) (n : Fin 1024) (s : Fin 2) (k : Fin k0_t1_loop.trips) (a7 a8 a9 a10 a11 : BitVec 32)
    (hw4 : k0_chk4 a9) (hw2 : k0_chk2 a8) (hw1 : k0_chk1 L k a7 a8 a9 a10 a11) (a6 : BitVec 32) (b64 b65 : BitVec 1) (w66 w71 w76 : BitVec 32) (b96 : BitVec 1)
    (e10 : k0_off10 a8 = ![s.val, 0, 0]) (e12 : k0_off12 a9 = ![s.val, 0, 0]) (k2 : Fin k0_t2_loop.trips) :
    iprop(iHas d L tt n s ∗ cP d L kap ∗ oHas d L (gath kap tt) n s (16 * k2.val))
      ⊢ wp frame (wpE (defs₀ (F := F)) 𝒱₀ (thr d L) none) Set.univ
          (k0_t2_body L tM (Memref.isWhole_whole _) kM (Memref.isWhole_whole _) aM (Memref.isWhole_whole _) cM (Memref.isWhole_whole _) cc0_scoped0
            iM (Memref.isWhole_whole _) cc0_scoped2 oM (Memref.isWhole_whole _) cc0_scoped4 k a7 a8 a9 a10 a11 hw4 hw2 hw1 a6 b64 b65 w66 w71 w76 b96 k2 ())
          fun _ => iprop(iHas d L tt n s ∗ cP d L kap ∗ oHas d L (gath kap tt) n s (16 * (k2.val + 1))) := by
  have hk2 : k2.val < 128 := lt_of_lt_of_eq k2.isLt trips2
  have hc : 16 * k2.val + 16 ≤ 2048 := by omega
  unfold k0_t2_body
  dsimp only
  iintro ⟨Hi, Hc, Ho⟩
  rw [wp_bind]
  iapply (load_idx tt d L n s (16 * k2.val) hc (k0_off10_inb a8 hw2) (k0_off11_inb k2) e10 (k0_off11_eq k2))
  isplitl [Hi]; · iexact Hi
  iintro Hi
  rw [wp_bind]
  have h3 : k0_chk3 (shapeCast S16 (tRow tt n (16 * k2.val) hc) shapeCasts_S1x16_S16) := by
    intro a x
    match a with
    | 0 => exact hT _
  iapply (wp_assume 𝒱₀ (thr d L) none Set.univ h3)
  rw [wp_ret]
  imodintro
  unfold cP
  iapply (SparseCore.wp_vectorLoadIdx 𝒱₀ (thr d L) none Set.univ (base := cM) (S := Finset.univ) (Finset.subset_univ _)) $$ Hc
  iintro Hc
  rw [wp_bind]
  iapply (load_dead d L (gath kap tt) n s (16 * k2.val) (k0_off12_inb a9 hw4) (k0_off13_inb k2) e12)
  isplitl [Ho]; · iexact Ho
  iintro %v Ho
  rw [wp_bind]
  iapply (store_idx d L (gath kap tt) n s (16 * k2.val) hc (k0_off12_inb a9 hw4) (k0_off13_inb k2) e12 (k0_off13_eq k2) _
    (gath_rows kap tt n (16 * k2.val) hc hT _))
  isplitl [Ho]; · iexact Ho
  iintro Ho
  rw [wp_pure]
  imodintro
  isplitl [Hi]; · iexact Hi
  isplitl [Hc]; · iexact Hc
  rw [show 16 * (k2.val + 1) = 16 * k2.val + 16 by omega]
  iexact Ho

end Tile

end Cert.Proof.KI

end

end
-- ==== Proof.Outer.lean ====
/- The outer loop of a tile: its pipeline of 32 blocks, double-buffered. -/
module

public import proofs.«01_k».proof.Proof.Inner

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]
local notation "𝕄" => MT nD τ sig (HIx 1) (Elt F) ℕ UU ℕ

section Tile

variable (kap : S100.Idx → Elt F .f32) (tt : S1x2097152.Idx → Elt F .i32) (a0 : S1x2097152.Idx → Elt F .f32)
variable (d : Dev nD) (L : grid0.Coords)

/-- Block `k` of the tile, among the 1024. -/
def bN (L : grid0.Coords) (k : ℕ) : Fin 1024 := ⟨blk L k % 1024, Nat.mod_lt _ (by omega)⟩
/-- The slot of trip `k`. -/
def par (k : ℕ) : Fin 2 := ⟨k % 2, Nat.mod_lt _ (by omega)⟩

/-- The number of the tile's block in iteration `k`. -/
theorem bN_val (k : ℕ) (hk : k < 32) : (bN L k).val = blk L k := by
  have h1 : (L 1).val < 16 := (L 1).isLt
  have h0 : (L 0).val < 2 := (L 0).isLt
  show blk L k % 1024 = blk L k
  unfold blk
  omega
/-- Two iterations on, the slot is the same. -/
theorem par_add (k : ℕ) : par (k + 1 + 1) = par k := by
  apply Fin.ext
  show (k + 1 + 1) % 2 = k % 2
  omega

/-- Changing one member of a family held. -/
theorem bigSep_upd {S : Finset ℕ} {Φ Ψ : ℕ → sProp 𝕄} (a : ℕ) (ha : a ∈ S) (h : ∀ j ∈ S, j ≠ a → Φ j = Ψ j) :
    bigSep S Φ ⊢ iprop(Φ a ∗ (Ψ a -∗ bigSep S Ψ)) := by
  rw [SparseCore.bigSep_erase' ha (Φ := Φ), SparseCore.bigSep_erase' ha (Φ := Ψ),
    bigSep_congr (s := S.erase a) (Φ := Φ) (Ψ := Ψ) fun j hj => h j (Finset.mem_of_mem_erase hj) (Finset.ne_of_mem_erase hj)]
  iintro ⟨Ha, Hr⟩
  isplitl [Ha]; · iexact Ha
  iintro Hb
  isplitl [Hb]; · iexact Hb
  iexact Hr

/-- The index blocks before trip `k`: all but the one in flight; and with the next in flight too. -/
def tSt (k : ℕ) : sProp 𝕄 := bigSep (Finset.range 32) fun j => if j = k then iprop(emp) else tP d L tt (bN L j)
/-- The indices' blocks that no transfer holds in iteration `k`. -/
def tMid (k : ℕ) : sProp 𝕄 := bigSep (Finset.range 32) fun j => if j = k ∨ j = k + 1 then iprop(emp) else tP d L tt (bN L j)
/-- The result blocks before trip `k`: done, in flight, untouched; and with block `k` in flight too. -/
def aSt (gg : S1x2097152.Idx → Elt F .f32) (k : ℕ) : sProp 𝕄 :=
  bigSep (Finset.range 32) fun j => if j + 1 < k then aP d L gg (bN L j) else if j + 1 = k then iprop(emp) else aP d L a0 (bN L j)
/-- The rows' blocks that no transfer holds in iteration `k`. -/
def aMid (gg : S1x2097152.Idx → Elt F .f32) (k : ℕ) : sProp 𝕄 :=
  bigSep (Finset.range 32) fun j => if j + 1 < k then aP d L gg (bN L j) else if j + 1 = k ∨ j = k then iprop(emp) else aP d L a0 (bN L j)

/-- Slot `k % 2` of the indices before trip `k`: its fetch in flight, after the last trip free. -/
def iNow (k : ℕ) : sProp 𝕄 :=
  if k < 32 then iFly d L tt (bN L k) (par k) else iprop(iFree d L (par k) ∗ semVal (thr d L, iC (par k)) 0)
/-- The other result slot before trip `k`: the last block's write-out in flight, free before the first trip. -/
def oPrev (gg : S1x2097152.Idx → Elt F .f32) (k : ℕ) : sProp 𝕄 :=
  if 0 < k then oFly d L gg (bN L (k - 1)) (par (k + 1)) else iprop(oFree d L (par (k + 1)) ∗ semVal (thr d L, oC (par (k + 1))) 0)

/-- What the tile holds before trip `k`. -/
def inv (O : CellTallies nD τ sig (HIx 1)) (k : ℕ) : sProp 𝕄 :=
  iprop(Transfers.MayWaits (thr d L) (default : HIx 1) O ∗ cP d L kap ∗ tSt tt d L k ∗ aSt a0 d L (gath kap tt) k
    ∗ iNow tt d L k ∗ iFree d L (par (k + 1)) ∗ semVal (thr d L, iC (par (k + 1))) 0
    ∗ oFree d L (par k) ∗ semVal (thr d L, oC (par k)) 0 ∗ oPrev d L (gath kap tt) k ∗ owesN d L O)

/-- The words carried before trip `k`. -/
def acc (k : ℕ) : BitVec 32 × BitVec 32 × BitVec 32 × BitVec 32 × BitVec 32 := (w7 k, w8 k, w8 k, w10 k, w11 k)

/-- The result blocks, once the write-out before this one has landed. -/
theorem aMid_done (gg : S1x2097152.Idx → Elt F .f32) (k : ℕ) (h0 : 0 < k) (hk : k < 32) :
    iprop(aMid a0 d L gg k ∗ aP d L gg (bN L (k - 1))) ⊢ aSt a0 d L gg (k + 1) := by
  unfold aMid aSt
  iintro ⟨Ha, Hab⟩
  ihave Ha' := (bigSep_upd (k - 1) (Finset.mem_range.mpr (by omega))
    (Ψ := fun j => if j + 1 < k + 1 then aP d L gg (bN L j) else if j + 1 = k + 1 then iprop(emp) else aP d L a0 (bN L j))
    (fun j _ hj => by split_ifs <;> first | rfl | (exfalso; omega))) $$ Ha
  icases Ha' with ⟨-, Har⟩
  iapply Har
  rw [if_pos (by omega)]
  iexact Hab

/-- At the first trip nothing has to land. -/
theorem aMid_first (gg : S1x2097152.Idx → Elt F .f32) (k : ℕ) (h0 : k = 0) : aMid a0 d L gg k = aSt a0 d L gg (k + 1) := by
  unfold aMid aSt
  refine bigSep_congr fun j _ => ?_
  subst h0
  rw [if_neg (by omega), if_neg (show ¬ j + 1 < 0 + 1 by omega)]
  by_cases h : j = 0
  · rw [if_pos (Or.inr h), if_pos (by omega)]
  · rw [if_neg (by omega), if_neg (by omega)]

/-- The middle of a trip: await the fetch, gather the 128 rows, send the block out. -/
theorem part2_wp (hT : ∀ x, (tt x : BitVec 32).toNat < 100) (O : CellTallies nD τ sig (HIx 1)) (k : Fin k0_t1_loop.trips)
    (hw4 : k0_chk4 (w8 k.val)) (hw2 : k0_chk2 (w8 k.val)) (hw1 : k0_chk1 L k (w7 k.val) (w8 k.val) (w8 k.val) (w10 k.val) (w11 k.val))
    (a6 : BitVec 32) (v64 v65 : BitVec 1) (v66 v71 v76 : BitVec 32) (v96 : BitVec 1) :
    iprop(Transfers.MayWaits (thr d L) (default : HIx 1) O ∗ cP d L kap ∗ tMid tt d L k.val ∗ aSt a0 d L (gath kap tt) k.val
        ∗ iFly d L tt (bN L k.val) (par k.val) ∗ oFree d L (par k.val) ∗ semVal (thr d L, oC (par k.val)) 0 ∗ owesN d L O)
      ⊢ wp frame (wpE (defs₀ (F := F)) 𝒱₀ (thr d L) none) Set.univ
          (k0_part2 L tM (Memref.isWhole_whole _) kM (Memref.isWhole_whole _) aM (Memref.isWhole_whole _) cM (Memref.isWhole_whole _) cc0_scoped0
            iM (Memref.isWhole_whole _) cc0_scoped2 oM (Memref.isWhole_whole _) cc0_scoped4 k (w7 k.val) (w8 k.val) (w8 k.val) (w10 k.val) (w11 k.val)
            hw4 hw2 hw1 a6 v64 v65 v66 v71 v76 v96)
          fun r => iprop(⌜r = ⟨Scalar.select (Scalar.andi (Scalar.ori (Scalar.cmpi .ne v66 v76) v65) 1#1) (Scalar.addi (w8 k.val) 1#32) (w8 k.val),
              Scalar.andi (Scalar.cmpi .ne v66 v71) (Scalar.xori v64 1#1)⟩⌝
            ∗ cP d L kap ∗ tSt tt d L (k.val + 1) ∗ aMid a0 d L (gath kap tt) k.val
            ∗ iFree d L (par k.val) ∗ semVal (thr d L, iC (par k.val)) 0 ∗ oFly d L (gath kap tt) (bN L k.val) (par k.val) ∗ owesN d L O) := by
  have hk : k.val < 32 := lt_of_lt_of_eq k.isLt trips1
  rw [k0_part2_eq_skeleton]
  unfold k0_part2_skel
  simp only [ite_self]
  rw [dif_pos (cond2_at L k), dif_pos (cond5_at L k), wp_bind]
  iintro ⟨#Hmw, Hc, Ht, Ha, Hi, Hof, Hov, HO⟩
  iapply (fetch_wait tt d L (bN L k.val) (par k.val) _ _ _ (off7_at k) (off9_at k))
  isplitl []; · iexact Hmw
  isplitl [Hi]; · iexact Hi
  isplitl [HO]; · iexact HO
  iintro ⟨Hih, Htb, Hiv, HO⟩
  ihave Ht : tSt tt d L (k.val + 1) $$ [Ht Htb]
  · unfold tMid tSt
    ihave Ht' := (bigSep_upd k.val (Finset.mem_range.mpr hk) (Ψ := fun j => if j = k.val + 1 then iprop(emp) else tP d L tt (bN L j))
      (fun j _ hj => by simp only [hj, false_or])) $$ Ht
    icases Ht' with ⟨-, Htr⟩
    iapply Htr
    rw [if_neg (by omega)]
    iexact Htb
  rw [wp_bind]
  ihave Ho : oHas d L (gath kap tt) (bN L k.val) (par k.val) (16 * 0) $$ [Hof]
  · unfold oFree oHas
    icases Hof with ⟨%f, Hof⟩
    iexists f
    isplitr
    · ipureintro
      intro x hx
      omega
    · iexact Hof
  iapply (Scf.wp_for frame (wpE (defs₀ (F := F)) 𝒱₀ (thr d L) none) Set.univ k0_t2_loop.lb k0_t2_loop.ub k0_t2_loop.st k0_t2_ok ⟨⟩ _
    (fun j _ => iprop(iHas d L tt (bN L k.val) (par k.val) ∗ cP d L kap ∗ oHas d L (gath kap tt) (bN L k.val) (par k.val) (16 * j)))
    (fun k2 _ => inner_trip kap tt d L hT (bN L k.val) (par k.val) k _ _ _ _ _ hw4 hw2 hw1 a6 v64 v65 v66 v71 v76 v96 (off10_at k) (off12_at k) k2))
  isplitl [Hih Hc Ho]
  · isplitl [Hih]; · iexact Hih
    isplitl [Hc]; · iexact Hc
    iexact Ho
  iintro %u ⟨Hih, Hc, Ho⟩
  have e2048 : 16 * Scf.trips k0_t2_loop.lb k0_t2_loop.ub k0_t2_loop.st = 2048 := by
    have h := trips2
    unfold Scf.Loop.trips at h
    omega
  rw [e2048]
  ihave Hif : iFree d L (par k.val) $$ [Hih]
  · unfold iHas iFree
    icases Hih with ⟨%f, -, Hih⟩
    iexists f
    iexact Hih
  unfold aSt
  ihave Ha' := (bigSep_upd k.val (Finset.mem_range.mpr hk)
    (Ψ := fun j => if j + 1 < k.val then aP d L (gath kap tt) (bN L j) else if j + 1 = k.val ∨ j = k.val then iprop(emp) else aP d L a0 (bN L j))
    (fun j _ hj => by simp only [hj, or_false])) $$ Ha
  rw [if_neg (by omega), if_neg (by omega), if_neg (by omega), if_pos (Or.inr rfl)]
  icases Ha' with ⟨Hab, Har⟩
  rw [wp_bind]
  iapply (out_start d L (gath kap tt) a0 (bN L k.val) (par k.val) _ _ _ ((off15_at L k).trans (by rw [bN_val L _ hk])) (off14_at k) (off16_at k))
  isplitl [Ho]; · iexact Ho
  isplitl [Hab]; · iexact Hab
  isplitl [Hov]; · iexact Hov
  iintro Hfly
  rw [wp_pure]
  imodintro
  isplitr
  · ipureintro; rfl
  isplitl [Hc]; · iexact Hc
  isplitl [Ht]; · iexact Ht
  isplitl [Har]
  · unfold aMid
    iapply Har; iempintro
  isplitl [Hif]; · iexact Hif
  isplitl [Hiv]; · iexact Hiv
  isplitl [Hfly]; · iexact Hfly
  iexact HO

set_option maxHeartbeats 1000000 in
/-- One trip of the outer loop. -/
theorem outer_trip (hT : ∀ x, (tt x : BitVec 32).toNat < 100) (O : CellTallies nD τ sig (HIx 1)) (k : Fin k0_t1_loop.trips) :
    inv kap tt a0 d L O k.val
      ⊢ wp frame (wpE (defs₀ (F := F)) 𝒱₀ (thr d L) none) Set.univ
          (k0_t1_body L tM (Memref.isWhole_whole _) kM (Memref.isWhole_whole _) aM (Memref.isWhole_whole _) cM (Memref.isWhole_whole _) cc0_scoped0
            iM (Memref.isWhole_whole _) cc0_scoped2 oM (Memref.isWhole_whole _) cc0_scoped4 (w4 L) k (acc k.val))
          fun r => iprop(⌜r = acc (k.val + 1)⌝ ∗ inv kap tt a0 d L O (k.val + 1)) := by
  have hk : k.val < 32 := lt_of_lt_of_eq k.isLt trips1
  have hres : ∀ r : BitVec 32 × BitVec 32 × BitVec 32 × BitVec 32 × BitVec 32, r = (w7 (k.val + 1), w8 (k.val + 1), w8 (k.val + 1), w10 (k.val + 1), w11 (k.val + 1)) →
      (iprop(cP d L kap ∗ tSt tt d L (k.val + 1) ∗ aSt a0 d L (gath kap tt) (k.val + 1) ∗ iNow tt d L (k.val + 1) ∗ iFree d L (par k.val)
        ∗ semVal (thr d L, iC (par k.val)) 0 ∗ oFree d L (par (k.val + 1)) ∗ semVal (thr d L, oC (par (k.val + 1))) 0
        ∗ oFly d L (gath kap tt) (bN L k.val) (par k.val) ∗ owesN d L O ∗ Transfers.MayWaits (thr d L) (default : HIx 1) O)
        ⊢ iprop(⌜r = (w7 (k.val + 1), w8 (k.val + 1), w8 (k.val + 1), w10 (k.val + 1), w11 (k.val + 1))⌝ ∗ inv kap tt a0 d L O (k.val + 1))) := by
    intro r hr
    unfold inv
    rw [par_add, show oPrev d L (gath kap tt) (k.val + 1) = oFly d L (gath kap tt) (bN L k.val) (par (k.val + 1 + 1)) from if_pos (Nat.succ_pos _), par_add]
    iintro ⟨Hc, Ht, Ha, Hin, Hif, Hiv, Hof, Hov, Hfly, HO, Hmw⟩
    isplitr; · ipureintro; exact hr
    isplitl [Hmw]; · iexact Hmw
    isplitl [Hc]; · iexact Hc
    isplitl [Ht]; · iexact Ht
    isplitl [Ha]; · iexact Ha
    isplitl [Hin]; · iexact Hin
    isplitl [Hif]; · iexact Hif
    isplitl [Hiv]; · iexact Hiv
    isplitl [Hof]; · iexact Hof
    isplitl [Hov]; · iexact Hov
    isplitl [Hfly]; · iexact Hfly
    iexact HO
  unfold k0_t1_body acc
  dsimp only
  rw [k0_part1_eq_skeleton]
  unfold k0_part1_skel inv
  rw [show iNow tt d L k.val = iFly d L tt (bN L k.val) (par k.val) from if_pos hk]
  dsimp only
  iintro ⟨#Hmw, Hc, Ht, Ha, Hi, Hif, Hiv, Hof, Hov, Hop, HO⟩
  rw [wp_bind, wp_bind]
  iapply (wp_assume 𝒱₀ (thr d L) none Set.univ (chk4_at k))
  rw [wp_ret]
  imodintro
  rw [wp_bind]
  iapply (wp_assume 𝒱₀ (thr d L) none Set.univ (chk2_at k))
  rw [wp_ret]
  imodintro
  rw [wp_bind]
  iapply (wp_assume 𝒱₀ (thr d L) none Set.univ (chk1_at L k))
  rw [wp_ret]
  imodintro
  -- the next fetch, before the last trip
  by_cases h31 : k.val < 31
  on_goal 1 =>
    rw [dif_pos ((cond1_at L k).mpr h31), wp_bind]
    unfold tSt
    ihave Ht' := (bigSep_upd (k.val + 1) (Finset.mem_range.mpr (by omega)) (Ψ := fun j => if j = k.val ∨ j = k.val + 1 then iprop(emp) else tP d L tt (bN L j))
      (fun j _ hj => by simp only [hj, or_false])) $$ Ht
    rw [if_neg (by omega), if_pos (Or.inr rfl)]
    icases Ht' with ⟨Htn, Htr⟩
    iapply (fetch_start tt d L (bN L (k.val + 1)) (par (k.val + 1)) _ _ _ ((off5_at L k h31).trans (by rw [bN_val L _ (by omega)])) (off4_at k h31) (off6_at k h31))
    isplitl [Htn]; · iexact Htn
    isplitl [Hif]; · iexact Hif
    isplitl [Hiv]; · iexact Hiv
    iintro Hfly
    rw [wp_pure]
    imodintro
    ihave Ht : tMid tt d L k.val $$ [Htr]
    · unfold tMid
      iapply Htr; iempintro
    ihave Hin : iNow tt d L (k.val + 1) $$ [Hfly]
    · unfold iNow
      rw [if_pos (by omega : k.val + 1 < 32)]
      iexact Hfly
  on_goal 2 =>
    rw [dif_neg (fun h => h31 ((cond1_at L k).mp h)), wp_pure]
    imodintro
    ihave Hin : iNow tt d L (k.val + 1) $$ [Hif Hiv]
    · unfold iNow
      rw [if_neg (by omega : ¬ k.val + 1 < 32)]
      isplitl [Hif]; · iexact Hif
      iexact Hiv
    ihave Ht : tMid tt d L k.val $$ [Ht]
    · unfold tSt tMid
      iapply (Entails.of_eq (bigSep_congr (s := Finset.range 32) (Φ := fun j => if j = k.val then iprop(emp) else tP d L tt (bN L j))
        (Ψ := fun j => if j = k.val ∨ j = k.val + 1 then iprop(emp) else tP d L tt (bN L j)) (fun j hj => by
          have := Finset.mem_range.mp hj
          have hne : ¬ j = k.val + 1 := by omega
          simp only [hne, _root_.or_false])))
      iexact Ht
  all_goals
    rw [wp_bind]
    iapply (wp_wand_r frame (wpE (defs₀ (F := F)) 𝒱₀ (thr d L) none) Set.univ)
    isplitl [Hc Ht Ha Hi Hof Hov HO]
    · iapply (part2_wp kap tt a0 d L hT O k)
      isplitl []; · iexact Hmw
      isplitl [Hc]; · iexact Hc
      isplitl [Ht]; · iexact Ht
      isplitl [Ha]; · iexact Ha
      isplitl [Hi]; · iexact Hi
      isplitl [Hof]; · iexact Hof
      isplitl [Hov]; · iexact Hov
      iexact HO
    iintro %r ⟨%hr, Hc, Ht, Ha, Hif, Hiv, Hfly, HO⟩
    subst hr
    dsimp only
    by_cases h0 : 0 < k.val
    · rw [dif_pos ((cond7_at L k).mpr h0), wp_bind]
      ihave Hop := (Entails.of_eq (show oPrev d L (gath kap tt) k.val = oFly d L (gath kap tt) (bN L (k.val - 1)) (par (k.val + 1)) from if_pos h0)) $$ Hop
      iapply (out_wait d L (gath kap tt) (bN L (k.val - 1)) (par (k.val + 1)) _ _ _ ((off18_at L k h0).trans (by rw [bN_val L _ (by omega)])) (off19_at k h0))
      isplitl []; · iexact Hmw
      isplitl [Hop]; · iexact Hop
      isplitl [HO]; · iexact HO
      iintro ⟨Hab, Hof, Hov, HO⟩
      rw [wp_pure]
      imodintro
      ihave Ha := (aMid_done a0 d L (gath kap tt) k.val h0 hk) $$ [Ha Hab]
      · isplitl [Ha]; · iexact Ha
        iexact Hab
      iapply (hres _ (by
        rw [Prod.mk.injEq, Prod.mk.injEq, Prod.mk.injEq, Prod.mk.injEq]
        exact ⟨next7 L k, next8 L k, next9 L k, next10 L k, next11 k⟩))
      isplitl [Hc]; · iexact Hc
      isplitl [Ht]; · iexact Ht
      isplitl [Ha]; · iexact Ha
      isplitl [Hin]; · iexact Hin
      isplitl [Hif]; · iexact Hif
      isplitl [Hiv]; · iexact Hiv
      isplitl [Hof]; · iexact Hof
      isplitl [Hov]; · iexact Hov
      isplitl [Hfly]; · iexact Hfly
      isplitl [HO]; · iexact HO
      iexact Hmw
    · have e0 : k.val = 0 := by omega
      rw [dif_neg (fun h => h0 ((cond7_at L k).mp h))]
      ihave Hop := (Entails.of_eq (show oPrev d L (gath kap tt) k.val = iprop(oFree d L (par (k.val + 1)) ∗ semVal (thr d L, oC (par (k.val + 1))) 0) from if_neg h0)) $$ Hop
      icases Hop with ⟨Hof, Hov⟩
      rw [wp_pure]
      imodintro
      ihave Ha := (Entails.of_eq (aMid_first a0 d L (gath kap tt) k.val e0)) $$ Ha
      iapply (hres _ (by
        rw [Prod.mk.injEq, Prod.mk.injEq, Prod.mk.injEq, Prod.mk.injEq]
        exact ⟨next7 L k, next8 L k, next9 L k, next10 L k, next11 k⟩))
      isplitl [Hc]; · iexact Hc
      isplitl [Ht]; · iexact Ht
      isplitl [Ha]; · iexact Ha
      isplitl [Hin]; · iexact Hin
      isplitl [Hif]; · iexact Hif
      isplitl [Hiv]; · iexact Hiv
      isplitl [Hof]; · iexact Hof
      isplitl [Hov]; · iexact Hov
      isplitl [Hfly]; · iexact Hfly
      isplitl [HO]; · iexact HO
      iexact Hmw

end Tile

end Cert.Proof.KI

end

end
-- ==== Proof.Whole.lean ====
/- The whole of a tile: the table's copy, the pipeline, the last wait. -/
module

public import proofs.«01_k».proof.Proof.Outer

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]
local notation "𝕄" => MT nD τ sig (HIx 1) (Elt F) ℕ UU ℕ

section Whole

variable (kap : S100.Idx → Elt F .f32) (tt : S1x2097152.Idx → Elt F .i32) (a0 : S1x2097152.Idx → Elt F .f32)
variable (d : Dev nD) (L : grid0.Coords)

/-! ## The double buffers as two slots -/

/-- A family of two is its two members. -/
theorem bigSep_two (Φ : Fin 2 → sProp 𝕄) : bigSep Finset.univ Φ = iprop(Φ 0 ∗ Φ 1) := BI.bigSep_fin_two Φ

/-- An element lies in the slot its first coordinate names. -/
theorem mem_slot (s : Fin 2) (x : S2x1x2048.Idx) : x ∈ (sRect s).set ↔ (x 0).val = s.val := by
  rw [Rect.mem_set_unit]
  have h1 : (x 1).val < 1 := (x 1).isLt
  have h2 : (x 2).val < 2048 := (x 2).isLt
  constructor
  · intro h
    have h0 : s.val ≤ (x 0).val ∧ (x 0).val < s.val + 1 := h 0
    omega
  · intro h a
    match a with
    | 0 => show s.val ≤ (x 0).val ∧ (x 0).val < s.val + 1; omega
    | 1 => show 0 ≤ (x 1).val ∧ (x 1).val < 0 + 1; omega
    | 2 => show 0 ≤ (x 2).val ∧ (x 2).val < 0 + 2048; omega
/-- The elements of an index slot. -/
theorem iS_set (s : Fin 2) : (iS s).view.set = (sRect s).set := (View.set_reshape _ _).trans (View.set_slice_whole _ _)
/-- The elements of a row slot. -/
theorem oS_set (s : Fin 2) : (oS s).view.set = (sRect s).set := (View.set_reshape _ _).trans (View.set_slice_whole _ _)
/-- The two slots have no element in common. -/
theorem slots_disjoint : ∀ s ∈ (Finset.univ : Finset (Fin 2)), ∀ s' ∈ (Finset.univ : Finset (Fin 2)), s ≠ s' → Disjoint (sRect s).set (sRect s').set := by
  intro s _ s' _ h
  rw [Finset.disjoint_left]
  intro x hx hx'
  exact h (Fin.ext (((mem_slot s x).mp hx).symm.trans ((mem_slot s' x).mp hx')))
/-- The two slots are the whole buffer. -/
theorem slots_cover : (Finset.univ : Finset (Fin 2)).biUnion (fun s => (sRect s).set) = Finset.univ := by
  ext x
  simp only [Finset.mem_biUnion, Finset.mem_univ, true_and, iff_true]
  exact ⟨x 0, (mem_slot (x 0) x).mpr rfl⟩

/-- The index buffer is its two slots together. -/
theorem iSlots (f : S2x1x2048.Idx → Elt F .i32) :
    (iM.view.loc (thr d L) ↦{fullShare} f : sProp 𝕄) = bigSep (Finset.univ : Finset (Fin 2)) fun s => (iS s).view.loc (thr d L) ↦[(iS s).view.set]{fullShare} f := by
  rw [bigSep_congr (Φ := fun s => (iS s).view.loc (thr d L) ↦[(iS s).view.set]{fullShare} f) (Ψ := fun s : Fin 2 => iM.view.loc (thr d L) ↦[(sRect s).set]{fullShare} f)
    (fun s _ => by rw [iS_set]), ← pointsTo_biUnion _ _ slots_disjoint, slots_cover]
/-- The row buffer is its two slots together. -/
theorem oSlots (f : S2x1x2048.Idx → Elt F .f32) :
    (oM.view.loc (thr d L) ↦{fullShare} f : sProp 𝕄) = bigSep (Finset.univ : Finset (Fin 2)) fun s => (oS s).view.loc (thr d L) ↦[(oS s).view.set]{fullShare} f := by
  rw [bigSep_congr (Φ := fun s => (oS s).view.loc (thr d L) ↦[(oS s).view.set]{fullShare} f) (Ψ := fun s : Fin 2 => oM.view.loc (thr d L) ↦[(sRect s).set]{fullShare} f)
    (fun s _ => by rw [oS_set]), ← pointsTo_biUnion _ _ slots_disjoint, slots_cover]

/-- The index buffer gives two free slots. -/
theorem iSplit (f : S2x1x2048.Idx → Elt F .i32) : (iM.view.loc (thr d L) ↦{fullShare} f : sProp 𝕄) ⊢ iprop(iFree (F := F) d L 0 ∗ iFree d L 1) := by
  rw [iSlots, bigSep_two]
  unfold iFree
  iintro ⟨H0, H1⟩
  isplitl [H0]
  · iexists f; iexact H0
  · iexists f; iexact H1
/-- The row buffer gives two free slots. -/
theorem oSplit (f : S2x1x2048.Idx → Elt F .f32) : (oM.view.loc (thr d L) ↦{fullShare} f : sProp 𝕄) ⊢ iprop(oFree (F := F) d L 0 ∗ oFree d L 1) := by
  rw [oSlots, bigSep_two]
  unfold oFree
  iintro ⟨H0, H1⟩
  isplitl [H0]
  · iexists f; iexact H0
  · iexists f; iexact H1

/-- Two free slots give the index buffer back. -/
theorem iJoin : iprop(iFree (F := F) d L 0 ∗ iFree d L 1) ⊢ (iprop(∃ f, iM.view.loc (thr d L) ↦{fullShare} f) : sProp 𝕄) := by
  unfold iFree
  iintro ⟨⟨%f0, H0⟩, ⟨%f1, H1⟩⟩
  iexists (fun x : S2x1x2048.Idx => if (x 0).val = 0 then f0 x else f1 x)
  rw [iSlots, bigSep_two]
  have e0 : ((iS 0).view.loc (thr d L) ↦[(iS 0).view.set]{fullShare} f0 : sProp 𝕄)
      = (iS 0).view.loc (thr d L) ↦[(iS 0).view.set]{fullShare} (fun x : S2x1x2048.Idx => if (x 0).val = 0 then f0 x else f1 x) := by
    refine pointsTo_congr ?_
    intro x hx
    rw [iS_set] at hx
    exact (if_pos ((mem_slot 0 x).mp hx)).symm
  have e1 : ((iS 1).view.loc (thr d L) ↦[(iS 1).view.set]{fullShare} f1 : sProp 𝕄)
      = (iS 1).view.loc (thr d L) ↦[(iS 1).view.set]{fullShare} (fun x : S2x1x2048.Idx => if (x 0).val = 0 then f0 x else f1 x) := by
    refine pointsTo_congr ?_
    intro x hx
    rw [iS_set] at hx
    exact (if_neg (show ¬ (x 0).val = 0 by rw [(mem_slot 1 x).mp hx]; decide)).symm
  isplitl [H0]
  · iapply (Entails.of_eq e0); iexact H0
  · iapply (Entails.of_eq e1); iexact H1

/-- Two free slots give the row buffer back. -/
theorem oJoin : iprop(oFree (F := F) d L 0 ∗ oFree d L 1) ⊢ (iprop(∃ f, oM.view.loc (thr d L) ↦{fullShare} f) : sProp 𝕄) := by
  unfold oFree
  iintro ⟨⟨%f0, H0⟩, ⟨%f1, H1⟩⟩
  iexists (fun x : S2x1x2048.Idx => if (x 0).val = 0 then f0 x else f1 x)
  rw [oSlots, bigSep_two]
  have e0 : ((oS 0).view.loc (thr d L) ↦[(oS 0).view.set]{fullShare} f0 : sProp 𝕄)
      = (oS 0).view.loc (thr d L) ↦[(oS 0).view.set]{fullShare} (fun x : S2x1x2048.Idx => if (x 0).val = 0 then f0 x else f1 x) := by
    refine pointsTo_congr ?_
    intro x hx
    rw [oS_set] at hx
    exact (if_pos ((mem_slot 0 x).mp hx)).symm
  have e1 : ((oS 1).view.loc (thr d L) ↦[(oS 1).view.set]{fullShare} f1 : sProp 𝕄)
      = (oS 1).view.loc (thr d L) ↦[(oS 1).view.set]{fullShare} (fun x : S2x1x2048.Idx => if (x 0).val = 0 then f0 x else f1 x) := by
    refine pointsTo_congr ?_
    intro x hx
    rw [oS_set] at hx
    exact (if_neg (show ¬ (x 0).val = 0 by rw [(mem_slot 1 x).mp hx]; decide)).symm
  isplitl [H0]
  · iapply (Entails.of_eq e0); iexact H0
  · iapply (Entails.of_eq e1); iexact H1

/-! ## The table's copy -/

/-- The table in HBM, at the tile's share. -/
def kP (q : PosShare TreeShare) : sProp 𝕄 := kM.view.loc (thr d L) ↦{q} kap
/-- The cell of the table's copy. -/
abbrev kC : SemLoc sig := .dma cc0_scoped0.sem

/-- The copied table is the table, and the share read from comes back. -/
theorem table_deliver (q : PosShare TreeShare) (f : S100.Idx → Elt F .f32) :
    iprop((cM.view.loc (thr d L) ↦[cM.view.set]{fullShare} (cM.view.write (Elt F) f (ReadAs.same.apply (kM.view.read (Elt F) kap)) Finset.univ))
      ∗ (kM.view.loc (thr d L) ↦[kM.view.set]{q} kap))
      ⊢ (iprop(cP d L kap ∗ kP kap d L q) : sProp 𝕄) := by
  have e : (cM.view.loc (thr d L) ↦[cM.view.set]{fullShare} (cM.view.write (Elt F) f (ReadAs.same.apply (kM.view.read (Elt F) kap)) Finset.univ) : sProp 𝕄)
      = (cM.view.loc (thr d L) ↦[cM.view.set]{fullShare} kap) := by
    refine pointsTo_congr ?_
    intro y hy
    obtain ⟨x, -, rfl⟩ := Finset.mem_map.mp hy
    rw [View.write_emb_of_mem _ _ (Finset.mem_univ _)]
    rfl
  rw [e]
  unfold cP kP
  iintro ⟨Hc, Hk⟩
  isplitl [Hc]
  · iapply (Entails.of_eq (show (cM.view.loc (thr d L) ↦[cM.view.set]{fullShare} kap : sProp 𝕄) = _ from by rw [show cM.view.set = Finset.univ from View.set_whole _]))
    iexact Hc
  · iapply (Entails.of_eq (show (kM.view.loc (thr d L) ↦[kM.view.set]{q} kap : sProp 𝕄) = _ from by rw [show kM.view.set = Finset.univ from View.set_whole _]))
    iexact Hk

/-- The table copied into the tile, and the copy awaited. -/
theorem part3_wp (q : PosShare TreeShare) (O : CellTallies nD τ sig (HIx 1)) :
    iprop(Transfers.MayWaits (thr d L) (default : HIx 1) O ∗ kP kap d L q ∗ (∃ f, cM.view.loc (thr d L) ↦{fullShare} f) ∗ semVal (thr d L, kC) 0 ∗ owesN d L O)
      ⊢ wp frame (wpE (defs₀ (F := F)) 𝒱₀ (thr d L) none) Set.univ
          (k0_part3 L tM (Memref.isWhole_whole _) kM (Memref.isWhole_whole _) aM (Memref.isWhole_whole _) cM (Memref.isWhole_whole _) cc0_scoped0
            iM (Memref.isWhole_whole _) cc0_scoped2 oM (Memref.isWhole_whole _) cc0_scoped4)
          fun r => iprop(⌜r = w4 L⌝ ∗ kP kap d L q ∗ cP d L kap ∗ semVal (thr d L, kC) 0 ∗ owesN d L O) := by
  rw [k0_part3_eq_skeleton]
  unfold k0_part3_skel owesN
  dsimp only
  iintro ⟨#Hmw, Hk, ⟨%f, Hc⟩, Hv, ⟨%W', HO⟩⟩
  rw [wp_bind]
  iapply (Transfers.wp_dmaLocal EC 𝒱₀ (thr d L) none (src := kM) (dst := cM) (sm := kC) default (cM.view.amount kC) rfl
    (View.amount_pos _ _ (show 0 < S100.numel by decide)) (Finset.subset_univ _) (fs := kap) (fd := f) (q := q)) $$ [Hk Hc Hv]
  · isplitl [Hk]
    · unfold kP
      iapply (Entails.of_eq (show _ = (kM.view.loc (thr d L) ↦[kM.view.set]{q} kap : sProp 𝕄) from by rw [show kM.view.set = Finset.univ from View.set_whole _]))
      iexact Hk
    isplitl [Hc]; · iexact Hc
    iexact Hv
  iintro Hf
  rw [wp_ret]
  imodintro
  rw [wp_bind]
  ihave Hw := (Transfers.MayWaits.elim (c := thr d L) (ι := (default : HIx 1)) (O := O) kC) $$ Hmw
  iapply (Transfers.wp_waitLocalO EC 𝒱₀ (thr d L) none (dstw := cM) default (N := cM.view.amount kC) rfl) $$ [Hf HO Hw]
  · isplitl [Hf]; · iexact Hf
    isplitl [HO]; · iexact HO
    iexact Hw
  iintro ⟨Hd, Hv, HO⟩
  rw [wp_ret]
  imodintro
  rw [wp_pure]
  imodintro
  ihave Hd := (table_deliver kap d L q f) $$ [Hd]
  · iapply (Entails.of_eq (show _ = iprop((cM.view.loc (thr d L) ↦[cM.view.set]{fullShare} (cM.view.write (Elt F) f (ReadAs.same.apply (kM.view.read (Elt F) kap)) Finset.univ))
      ∗ (kM.view.loc (thr d L) ↦[kM.view.set]{q} kap)) from by rw [show cM.view.set = Finset.univ from View.set_whole _]))
    iexact Hd
  icases Hd with ⟨Hc, Hk⟩
  isplitr; · ipureintro; rfl
  isplitl [Hk]; · iexact Hk
  isplitl [Hc]; · iexact Hc
  isplitl [Hv]; · iexact Hv
  iexists _; iexact HO

/-! ## The whole body -/

/-- All the tile's blocks. -/
def tAll : sProp 𝕄 := bigSep (Finset.range 32) fun j => tP d L tt (bN L j)
/-- A tile's 32 blocks of the gathered rows. -/
def aAll (f : S1x2097152.Idx → Elt F .f32) : sProp 𝕄 := bigSep (Finset.range 32) fun j => aP d L f (bN L j)
/-- The slots and their cells, free. -/
def slots : sProp 𝕄 :=
  iprop(iFree (F := F) d L 0 ∗ iFree (F := F) d L 1 ∗ oFree (F := F) d L 0 ∗ oFree (F := F) d L 1
    ∗ semVal (thr d L, iC 0) 0 ∗ semVal (thr d L, iC 1) 0 ∗ semVal (thr d L, oC 0) 0 ∗ semVal (thr d L, oC 1) 0)

/-- The words the loop starts with are those of iteration zero. -/
theorem acc_zero : (Scalar.addi 0#32 1#32, 0#32, 0#32, 0#32, 0#32) = acc 0 := by decide
/-- The first fetch goes to the first slot. -/
theorem off1_zero : k0_off1 = ![(par 0).val, 0, 0] := by decide
/-- The first fetch signals the first slot's semaphore. -/
theorem off3_zero : k0_off3 = ![(par 0).val] := by decide

/-- The pipeline: the first fetch and the 32 trips. -/
theorem part4_wp (hT : ∀ x, (tt x : BitVec 32).toNat < 100) (O : CellTallies nD τ sig (HIx 1)) :
    iprop(Transfers.MayWaits (thr d L) (default : HIx 1) O ∗ cP d L kap ∗ tAll tt d L ∗ aAll d L a0 ∗ slots (F := F) d L ∗ owesN d L O)
      ⊢ wp frame (wpE (defs₀ (F := F)) 𝒱₀ (thr d L) none) Set.univ
          (k0_part4 L tM (Memref.isWhole_whole _) kM (Memref.isWhole_whole _) aM (Memref.isWhole_whole _) cM (Memref.isWhole_whole _) cc0_scoped0
            iM (Memref.isWhole_whole _) cc0_scoped2 oM (Memref.isWhole_whole _) cc0_scoped4 (w4 L))
          fun r => iprop(⌜r = ⟨w10 32, w11 32, chk6_at L, chk5_at⟩⌝ ∗ inv kap tt a0 d L O 32) := by
  rw [k0_part4_eq_skeleton]
  unfold k0_part4_skel tAll aAll slots
  dsimp only
  iintro ⟨#Hmw, Hc, Ht, Ha, ⟨Hi0, Hi1, Ho0, Ho1, Hv0, Hv1, Hu0, Hu1⟩, HO⟩
  rw [wp_bind]
  ihave Ht' := (bigSep_upd 0 (Finset.mem_range.mpr (by omega)) (Ψ := fun j => if j = 0 then iprop(emp) else tP d L tt (bN L j))
      (fun j _ hj => (if_neg hj).symm)) $$ Ht
  icases Ht' with ⟨Htn, Htr⟩
  iapply (fetch_start tt d L (bN L 0) (par 0) _ _ _ ((off2_at L).trans (by rw [bN_val L _ (by omega)])) off1_zero off3_zero)
  isplitl [Htn]; · iexact Htn
  isplitl [Hi0]; · iexact Hi0
  isplitl [Hv0]; · iexact Hv0
  iintro Hfly
  rw [wp_bind]
  have hstep : ∀ (k : Fin k0_t1_loop.trips) (r : BitVec 32 × BitVec 32 × BitVec 32 × BitVec 32 × BitVec 32),
      iprop(⌜r = acc k.val⌝ ∗ inv kap tt a0 d L O k.val) ⊢ wp frame (wpE (defs₀ (F := F)) 𝒱₀ (thr d L) none) Set.univ
          (k0_t1_body L tM (Memref.isWhole_whole _) kM (Memref.isWhole_whole _) aM (Memref.isWhole_whole _) cM (Memref.isWhole_whole _) cc0_scoped0
            iM (Memref.isWhole_whole _) cc0_scoped2 oM (Memref.isWhole_whole _) cc0_scoped4 (w4 L) k r)
          fun r => iprop(⌜r = acc (k.val + 1)⌝ ∗ inv kap tt a0 d L O (k.val + 1)) := by
    intro k r
    iintro ⟨%hr, Hinv⟩
    subst hr
    iapply (outer_trip kap tt a0 d L hT O k)
    iexact Hinv
  iapply (Scf.wp_for frame (wpE (defs₀ (F := F)) 𝒱₀ (thr d L) none) Set.univ k0_t1_loop.lb k0_t1_loop.ub k0_t1_loop.st k0_t1_ok _ _
    (fun j r => iprop(⌜r = acc j⌝ ∗ inv kap tt a0 d L O j)) hstep)
  isplitr []
  · isplitr; · ipureintro; exact acc_zero
    unfold inv
    rw [show iNow tt d L 0 = iFly d L tt (bN L 0) (par 0) from if_pos (by omega),
      show oPrev d L (gath kap tt) 0 = iprop(oFree d L (par (0 + 1)) ∗ semVal (thr d L, oC (par (0 + 1))) 0) from if_neg (by omega)]
    isplitl []; · iexact Hmw
    isplitl [Hc]; · iexact Hc
    isplitl [Htr]
    · unfold tSt
      iapply Htr
      rw [if_pos rfl]
      iempintro
    isplitl [Ha]
    · unfold aSt
      iapply (Entails.of_eq (bigSep_congr (s := Finset.range 32) (Φ := fun j => aP d L a0 (bN L j))
        (Ψ := fun j => if j + 1 < 0 then aP d L (gath kap tt) (bN L j) else if j + 1 = 0 then iprop(emp) else aP d L a0 (bN L j))
        (fun j _ => by rw [if_neg (by omega), if_neg (by omega)])))
      iexact Ha
    isplitl [Hfly]; · iexact Hfly
    isplitl [Hi1]; · iexact Hi1
    isplitl [Hv1]; · iexact Hv1
    isplitl [Ho0]; · iexact Ho0
    isplitl [Hu0]; · iexact Hu0
    isplitl [Ho1 Hu1]
    · isplitl [Ho1]; · iexact Ho1
      iexact Hu1
    iexact HO
  iintro %r ⟨%hr, Hinv⟩
  have e32 : Scf.trips k0_t1_loop.lb k0_t1_loop.ub k0_t1_loop.st = 32 := trips1
  rw [e32] at hr ⊢
  subst hr
  unfold acc
  dsimp only
  rw [wp_bind]
  iapply (wp_assume 𝒱₀ (thr d L) none Set.univ (chk6_at L))
  rw [wp_ret]
  imodintro
  rw [wp_bind]
  iapply (wp_assume 𝒱₀ (thr d L) none Set.univ chk5_at)
  rw [wp_ret]
  imodintro
  rw [wp_pure]
  imodintro
  isplitr; · ipureintro; rfl
  iexact Hinv

set_option maxHeartbeats 1000000 in
/-- The whole body: every block of the result holds the rows its indices name. -/
theorem tile_wp (hT : ∀ x, (tt x : BitVec 32).toNat < 100) (q : PosShare TreeShare) (O : CellTallies nD τ sig (HIx 1)) :
    iprop(Transfers.MayWaits (thr d L) (default : HIx 1) O ∗ kP kap d L q ∗ (∃ f, cM.view.loc (thr d L) ↦{fullShare} f) ∗ semVal (thr d L, kC) 0
        ∗ tAll tt d L ∗ aAll d L a0 ∗ slots (F := F) d L ∗ owesN d L O)
      ⊢ wp frame (wpE (defs₀ (F := F)) 𝒱₀ (thr d L) none) Set.univ
          (cc0_gather_kernel L tM (Memref.isWhole_whole _) kM (Memref.isWhole_whole _) aM (Memref.isWhole_whole _) cM (Memref.isWhole_whole _) cc0_scoped0
            iM (Memref.isWhole_whole _) cc0_scoped2 oM (Memref.isWhole_whole _) cc0_scoped4)
          fun _ => iprop(kP kap d L q ∗ (∃ f, cM.view.loc (thr d L) ↦{fullShare} f) ∗ semVal (thr d L, kC) 0
            ∗ tAll tt d L ∗ aAll d L (gath kap tt) ∗ slots (F := F) d L ∗ owesN d L O) := by
  rw [cc0_gather_kernel_eq_skeleton]
  unfold cc0_gather_kernel_skel
  iintro ⟨#Hmw, Hk, Hc, Hv, Ht, Ha, Hs, HO⟩
  rw [wp_bind]
  iapply (wp_wand_r frame (wpE (defs₀ (F := F)) 𝒱₀ (thr d L) none) Set.univ)
  isplitl [Hk Hc Hv HO]
  · iapply (part3_wp kap d L q O)
    isplitl []; · iexact Hmw
    isplitl [Hk]; · iexact Hk
    isplitl [Hc]; · iexact Hc
    isplitl [Hv]; · iexact Hv
    iexact HO
  iintro %r ⟨%hr, Hk, Hc, Hv, HO⟩
  subst hr
  rw [wp_bind]
  iapply (wp_wand_r frame (wpE (defs₀ (F := F)) 𝒱₀ (thr d L) none) Set.univ)
  isplitl [Hc Ht Ha Hs HO]
  · iapply (part4_wp kap tt a0 d L hT O)
    isplitl []; · iexact Hmw
    isplitl [Hc]; · iexact Hc
    isplitl [Ht]; · iexact Ht
    isplitl [Ha]; · iexact Ha
    isplitl [Hs]; · iexact Hs
    iexact HO
  iintro %r ⟨%hr, Hinv⟩
  subst hr
  dsimp only
  unfold inv
  icases Hinv with ⟨-, Hc, Ht, Ha, Hin, Hi1, Hv1, Ho0, Hu0, Hop, HO⟩
  ihave Hin := (Entails.of_eq (show iNow tt d L 32 = iprop(iFree d L (par 32) ∗ semVal (thr d L, iC (par 32)) 0) from if_neg (by omega))) $$ Hin
  icases Hin with ⟨Hi0, Hv0⟩
  ihave Hop := (Entails.of_eq (show oPrev d L (gath kap tt) 32 = oFly d L (gath kap tt) (bN L 31) (par 33) from if_pos (by omega))) $$ Hop
  rw [wp_bind]
  iapply (out_wait d L (gath kap tt) (bN L 31) (par 33) _ _ _ ((off21_at L).trans (by rw [bN_val L _ (by omega)])) off22_at)
  isplitl []; · iexact Hmw
  isplitl [Hop]; · iexact Hop
  isplitl [HO]; · iexact HO
  iintro ⟨Hab, Ho1, Hu1, HO⟩
  rw [wp_pure]
  imodintro
  isplitl [Hk]; · iexact Hk
  isplitl [Hc]
  · unfold cP
    iexists kap; iexact Hc
  isplitl [Hv]; · iexact Hv
  isplitl [Ht]
  · unfold tSt tAll
    iapply (Entails.of_eq (bigSep_congr (s := Finset.range 32) (Φ := fun j => if j = 32 then iprop(emp) else tP d L tt (bN L j)) (Ψ := fun j => tP d L tt (bN L j))
      (fun j hj => if_neg (by have := Finset.mem_range.mp hj; omega))))
    iexact Ht
  isplitl [Ha Hab]
  · unfold aSt aAll
    ihave Ha' := (bigSep_upd 31 (Finset.mem_range.mpr (by omega)) (Ψ := fun j => aP d L (gath kap tt) (bN L j))
      (fun j hj hne => if_pos (by have := Finset.mem_range.mp hj; omega))) $$ Ha
    icases Ha' with ⟨-, Har⟩
    iapply Har
    iexact Hab
  isplitr [HO]
  · unfold slots
    isplitl [Hi0]; · iexact Hi0
    isplitl [Hi1]; · iexact Hi1
    isplitl [Ho0]; · iexact Ho0
    isplitl [Ho1]; · iexact Ho1
    isplitl [Hv0]; · iexact Hv0
    isplitl [Hv1]; · iexact Hv1
    isplitl [Hu0]; · iexact Hu0
    iexact Hu1
  iexact HO

end Whole

end Cert.Proof.KI

end

end
-- ==== Proof.Obl.lean ====
/- A tile's task as the launch asks for it. -/
module

public import proofs.«01_k».proof.Proof.Whole

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]
local notation "𝕄" => MT nD τ sig (HIx 1) (Elt F) ℕ UU ℕ

section Obl

variable (kap : Dev nD → S100.Idx → Elt F .f32) (tt : Dev nD → S1x2097152.Idx → Elt F .i32) (a0 : Dev nD → S1x2097152.Idx → Elt F .f32)

/-! ## A tile's own cells and buffers -/

section Own

variable (d : Dev nD) (L : grid0.Coords)

/-- The cell of the table's semaphore. -/
abbrev kG : GSem nD τ sig := (thr d L, kC)
/-- The cell of an index slot's semaphore. -/
abbrev iG (s : Fin 2) : GSem nD τ sig := (thr d L, iC s)
/-- The cell of a row slot's semaphore. -/
abbrev oG (s : Fin 2) : GSem nD τ sig := (thr d L, oC s)

/-- Two semaphores of a tile are two cells. -/
theorem cell_ne {A B : SemLoc sig} (h : A ≠ B) : ((thr d L, A) : GSem nD τ sig) ≠ (thr d L, B) := fun e => h (congrArg Prod.snd e)
/-- A scoped semaphore's cell is the tile's own. -/
theorem mem_own {A : SemLoc sig} (h : A.isScoped .scVector = true) : ((thr d L, A) : GSem nD τ sig) ∈ ownCells (thr d L) :=
  (mem_ownCells (g := (thr d L, A))).mpr ⟨rfl, h⟩

/-- The tile's cells: the table copy's, the two fetches', the two write-outs', and the rest. -/
theorem ownSems0_V :
    (ownSems0 (thr d L) : sProp 𝕄)
      = iprop(semVal (kG d L) 0 ∗ semVal (iG d L 0) 0 ∗ semVal (iG d L 1) 0 ∗ semVal (oG d L 0) 0 ∗ semVal (oG d L 1) 0
          ∗ bigSep ((((((ownCells (thr d L)).erase (kG d L)).erase (iG d L 0)).erase (iG d L 1)).erase (oG d L 0)).erase (oG d L 1)) fun g => semVal g 0) := by
  unfold SparseCore.Cfg.ownSems0
  rw [SparseCore.bigSep_erase' (mem_own d L (A := kC) (by decide)),
    SparseCore.bigSep_erase' (Finset.mem_erase.mpr ⟨cell_ne d L (A := iC 0) (B := kC) (by decide), mem_own d L (by decide)⟩),
    SparseCore.bigSep_erase' (Finset.mem_erase.mpr ⟨cell_ne d L (A := iC 1) (B := iC 0) (by decide), Finset.mem_erase.mpr ⟨cell_ne d L (B := kC) (by decide),
      mem_own d L (by decide)⟩⟩),
    SparseCore.bigSep_erase' (Finset.mem_erase.mpr ⟨cell_ne d L (A := oC 0) (B := iC 1) (by decide), Finset.mem_erase.mpr ⟨cell_ne d L (B := iC 0) (by decide),
      Finset.mem_erase.mpr ⟨cell_ne d L (B := kC) (by decide), mem_own d L (by decide)⟩⟩⟩),
    SparseCore.bigSep_erase' (Finset.mem_erase.mpr ⟨cell_ne d L (A := oC 1) (B := oC 0) (by decide), Finset.mem_erase.mpr ⟨cell_ne d L (B := iC 1) (by decide),
      Finset.mem_erase.mpr ⟨cell_ne d L (B := iC 0) (by decide), Finset.mem_erase.mpr ⟨cell_ne d L (B := kC) (by decide), mem_own d L (by decide)⟩⟩⟩⟩)]

/-- The tile's buffers: its copy of the table, the index slots, the result slots, and the rest. -/
theorem ownBufs_V :
    (ownBufs (thr d L) : sProp 𝕄)
      = iprop((∃ f, (thr d L).loc cc0_scratch0 ↦{fullShare} f) ∗ (∃ f, (thr d L).loc cc0_scoped1 ↦{fullShare} f)
          ∗ (∃ f, (thr d L).loc cc0_scoped3 ↦{fullShare} f)
          ∗ bigSep ((((ownRefs (τ := τ) (.scVector (cV L) (jV L))).erase ((Proc.scVector (cV L) (jV L)).devRef cc0_scratch0)).erase
              ((Proc.scVector (cV L) (jV L)).devRef cc0_scoped1)).erase ((Proc.scVector (cV L) (jV L)).devRef cc0_scoped3))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scoped1 : Ref sig .scVector) ≠ cc0_scratch0 by decide),
    SparseCore.Cfg.mem_ownRefs_of_owner (p := Proc.scVector (cV L) (jV L)) (b := (Proc.scVector (cV L) (jV L)).devRef cc0_scoped1) rfl⟩),
    SparseCore.bigSep_erase' (Finset.mem_erase.mpr ⟨fun e => absurd (Proc.devRef_injective _ e) (show (cc0_scoped3 : Ref sig .scVector) ≠ cc0_scoped1 by decide),
      Finset.mem_erase.mpr ⟨fun e => absurd (Proc.devRef_injective _ e) (show (cc0_scoped3 : Ref sig .scVector) ≠ cc0_scratch0 by decide),
      SparseCore.Cfg.mem_ownRefs_of_owner (p := Proc.scVector (cV L) (jV L)) (b := (Proc.scVector (cV L) (jV L)).devRef cc0_scoped3) rfl⟩⟩)]

end Own

/-! ## What the handshakes carry -/

/-- A tile's coordinates from its two numbers. -/
def coordsV (c : Fin (grid0.bound 0)) (s : Fin (grid0.bound 1)) : grid0.Coords :=
  fun | 0 => c | 1 => s | ⟨_ + 2, h⟩ => absurd h (Nat.not_lt.2 (Nat.le_add_left _ _))

/-- The tile's share of the table. -/
def shr (L : grid0.Coords) : PosShare TreeShare := Transfers.shareTokN fullShare ((L 1).val + 16 * (L 0).val)

/-- What a tile is handed, and what it hands back: its share of the table, its blocks of the indices and of the result. -/
def goP (d : Dev nD) (L : grid0.Coords) : sProp 𝕄 := iprop(kP (kap d) d L (shr L) ∗ tAll (tt d) d L ∗ aAll d L (a0 d))
/-- What a tile hands back: its share of the table, its indices, its rows gathered. -/
def tdP (d : Dev nD) (L : grid0.Coords) : sProp 𝕄 := iprop(kP (kap d) d L (shr L) ∗ tAll (tt d) d L ∗ aAll d L (gath (kap d) (tt d)))

/-- What a tile is handed can be stored in a handshake. -/
instance goP_storable (d : Dev nD) (L : grid0.Coords) : BI.Storable (upEmb : UEmb _ 𝕄) (goP kap tt a0 d L) := by
  unfold goP kP tAll aAll tP aP; infer_instance
/-- What a tile hands back can be stored in a handshake. -/
instance tdP_storable (d : Dev nD) (L : grid0.Coords) : BI.Storable (upEmb : UEmb _ 𝕄) (tdP kap tt d L) := by
  unfold tdP kP tAll aAll tP aP; infer_instance

/-- What a SparseCore's sequencer is handed, and what it hands back: what its 16 tiles are, and do. -/
def stP (d : Dev nD) (c : Fin (grid0.bound 0)) : sProp 𝕄 := bigSep Finset.univ fun i : Fin ((K (F := F)).nSub 0) => goP kap tt a0 d (coordsV c i)
/-- What a SparseCore hands back: what its tiles do. -/
def dnP (d : Dev nD) (c : Fin (grid0.bound 0)) : sProp 𝕄 := bigSep Finset.univ fun i : Fin ((K (F := F)).nSub 0) => tdP kap tt d (coordsV c i)

/-- What a SparseCore is handed can be stored in a handshake. -/
instance stP_storable (d : Dev nD) (c : Fin (grid0.bound 0)) : BI.Storable (upEmb : UEmb _ 𝕄) (stP kap tt a0 d c) := by
  unfold stP
  have h : ∀ i : Fin ((K (F := F)).nSub 0), BI.Storable (upEmb : UEmb _ 𝕄) (goP kap tt a0 d (coordsV c i)) := fun i => goP_storable kap tt a0 d _
  infer_instance
/-- What a SparseCore hands back can be stored in a handshake. -/
instance dnP_storable (d : Dev nD) (c : Fin (grid0.bound 0)) : BI.Storable (upEmb : UEmb _ 𝕄) (dnP kap tt d c) := by
  unfold dnP
  have h : ∀ i : Fin ((K (F := F)).nSub 0), BI.Storable (upEmb : UEmb _ 𝕄) (tdP kap tt d (coordsV c i)) := fun i => tdP_storable kap tt d _
  infer_instance

/-- The one call. -/
def P : (K (F := F)).Pay (nD := nD) (Val := Elt F) (Name := ℕ) (U := UU) where
  st := fun q d c => match q with | 0 => stP kap tt a0 d c
  dn := fun q d c => match q with | 0 => dnP kap tt d c
  go := fun q d c i => match q with | 0 => goP kap tt a0 d (coordsV c i)
  td := fun q d c i => match q with | 0 => tdP kap tt d (coordsV c i)
  x := fun _ _ => iprop(emp)

/-- All that the handshakes carry can be stored. -/
instance P_storable : (P kap tt a0).IsStorable where
  st q d c := match q with | 0 => stP_storable kap tt a0 d c
  dn q d c := match q with | 0 => dnP_storable kap tt d c
  go q d c i := match q with | 0 => goP_storable kap tt a0 d (coordsV c i)
  td q d c i := match q with | 0 => tdP_storable kap tt d (coordsV c i)

/-! ## The obligation -/

/-- The task of one tile, from what it is handed to what it hands back. -/
theorem tile_body (hT : ∀ d x, (tt d x : BitVec 32).toNat < 100) (d : Dev nD) (L : grid0.Coords) (hF : (K (F := F)).Facts)
    (O : CellTallies nD τ sig (HIx 1)) (W : Waits sig (HIx 1)) (hO : ∀ g, O g none = 0) :
    iprop(levAts (K (F := F)).L (K (F := F)).lev ∗ emp ∗ goP kap tt a0 d L ∗ scopedBufs (thr d L) ∗ scopedSems0 (thr d L) ∗ owes (thr d L) O W)
      ⊢ wp frame (wpE (defs₀ (F := F)) 𝒱₀ (thr d L) none) Set.univ
          (cc0_gather_kernel L tM (Memref.isWhole_whole _) kM (Memref.isWhole_whole _) aM (Memref.isWhole_whole _) cM (Memref.isWhole_whole _) cc0_scoped0
            iM (Memref.isWhole_whole _) cc0_scoped2 oM (Memref.isWhole_whole _) cc0_scoped4)
          fun _ => iprop(tdP kap tt d L ∗ scopedBufs (thr d L) ∗ scopedSems0 (thr d L)
            ∗ ∃ W', ⌜∀ p ∈ W', p ∈ W ∨ p.2 = none ∨ p.2 = some (0 : Fin 1)⌝ ∗ owes (thr d L) O W') := by
  rw [(K (F := F)).scopedBufs_V hF d (cV L) (jV L), SparseCore.Cfg.scopedSems0_V (Val := Elt F) d (cV L) (jV L), ownSems0_V, ownBufs_V]
  unfold goP tdP
  iintro ⟨#Hlv, -, ⟨Hk, Ht, Ha⟩, ⟨Hc, ⟨%fi, Hi⟩, ⟨%fo, Ho⟩, Hbufs⟩, ⟨Hv, Hv0, Hv1, Hu0, Hu1, Hsems⟩, HO⟩
  ihave Hmw := (show levAts (K (F := F)).L (K (F := F)).lev ⊢ Transfers.MayWaits (thr d L) (default : HIx 1) O from
    (K (F := F)).mayWaits_none (thr := thr d L) hO) $$ Hlv
  ihave Hi := (iSplit d L fi) $$ Hi
  icases Hi with ⟨Hi0, Hi1⟩
  ihave Ho := (oSplit d L fo) $$ Ho
  icases Ho with ⟨Ho0, Ho1⟩
  iapply (wp_wand_r frame (wpE (defs₀ (F := F)) 𝒱₀ (thr d L) none) Set.univ)
  isplitl [Hmw Hk Hc Hv Ht Ha Hi0 Hi1 Ho0 Ho1 Hv0 Hv1 Hu0 Hu1 HO]
  · iapply (tile_wp (kap d) (tt d) (a0 d) d L (hT d) (shr L) O)
    isplitl [Hmw]; · iexact Hmw
    isplitl [Hk]; · iexact Hk
    isplitl [Hc]; · iexact Hc
    isplitl [Hv]; · iexact Hv
    isplitl [Ht]; · iexact Ht
    isplitl [Ha]; · iexact Ha
    isplitl [Hi0 Hi1 Ho0 Ho1 Hv0 Hv1 Hu0 Hu1]
    · unfold slots
      isplitl [Hi0]; · iexact Hi0
      isplitl [Hi1]; · iexact Hi1
      isplitl [Ho0]; · iexact Ho0
      isplitl [Ho1]; · iexact Ho1
      isplitl [Hv0]; · iexact Hv0
      isplitl [Hv1]; · iexact Hv1
      isplitl [Hu0]; · iexact Hu0
      iexact Hu1
    unfold owesN
    iexists W; iexact HO
  iintro %u ⟨Hk, Hc, Hv, Ht, Ha, Hs, HO⟩
  unfold slots owesN
  icases Hs with ⟨Hi0, Hi1, Ho0, Ho1, Hv0, Hv1, Hu0, Hu1⟩
  icases HO with ⟨%W', HO⟩
  isplitl [Hk Ht Ha]
  · isplitl [Hk]; · iexact Hk
    isplitl [Ht]; · iexact Ht
    iexact Ha
  isplitl [Hc Hi0 Hi1 Ho0 Ho1 Hbufs]
  · isplitl [Hc]; · iexact Hc
    isplitl [Hi0 Hi1]
    · iapply (iJoin d L)
      isplitl [Hi0]; · iexact Hi0
      iexact Hi1
    isplitl [Ho0 Ho1]
    · iapply (oJoin d L)
      isplitl [Ho0]; · iexact Ho0
      iexact Ho1
    iexact Hbufs
  isplitl [Hv Hv0 Hv1 Hu0 Hu1 Hsems]
  · isplitl [Hv]; · iexact Hv
    isplitl [Hv0]; · iexact Hv0
    isplitl [Hv1]; · iexact Hv1
    isplitl [Hu0]; · iexact Hu0
    isplitl [Hu1]; · iexact Hu1
    iexact Hsems
  iexists W'
  isplitr
  · ipureintro
    intro p _
    rcases p.2 with _ | q
    · exact .inr (.inl rfl)
    · exact .inr (.inr (congrArg some (Subsingleton.elim q 0)))
  iexact HO

/-- A tile's program is the kernel's body at its coordinates. -/
theorem defs₀_vector (c : Fin τ.nSC) (s : Fin τ.nSub) :
    defs₀ (F := F) (.scVector c s) 0 ()
      = SparseCore.onTile hcore0 hsub0 (fun c s => cc0_gather_kernel (coordsV c s)
          tM (Memref.isWhole_whole _) kM (Memref.isWhole_whole _) aM (Memref.isWhole_whole _) cM (Memref.isWhole_whole _) cc0_scoped0
          iM (Memref.isWhole_whole _) cc0_scoped2 oM (Memref.isWhole_whole _) cc0_scoped4) ⟨⟩ c s := rfl

/-- Every tile meets its obligation, for indices in range. -/
theorem tileObl (hT : ∀ d x, (tt d x : BitVec 32).toNat < 100) (hF : (K (F := F)).Facts) : (K (F := F)).TileObl (D (F := F)) 𝒱 (P kap tt a0) v₀ 0 := by
  intro d c i O W hO _ _
  simp only [show (P kap tt a0).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body kap tt a0 hT d (coordsV ⟨_, hci.1⟩ ⟨_, hci.2⟩) hF O W hO

/-- A SparseCore's part is its tiles' parts together. -/
theorem vecSplit : (K (F := F)).VecSplit' (P kap tt a0) 0 := by
  intro d c
  show stP kap tt a0 d c ⊢ |={Set.univ}=> iprop(
      (bigSep Finset.univ fun i : Fin ((K (F := F)).nSub 0) => goP kap tt a0 d (coordsV c i))
      ∗ ((bigSep Finset.univ fun i : Fin ((K (F := F)).nSub 0) => tdP kap tt d (coordsV c i)) -∗ dnP kap tt d c))
  unfold stP dnP
  iintro H
  imodintro
  isplitl [H]; · iexact H
  iintro H
  iexact H

end Obl

end Cert.Proof.KI

end

end
-- ==== Proof.Share.lean ====
/- What the call takes of @main's arrays, split among the tiles, and what it gives back. -/
module

public import proofs.«01_k».proof.Proof.Obl
public import Idealize.ShloMosaic.Lib.Ring

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]
local notation "𝕄" => MT nD τ sig (HIx 1) (Elt F) ℕ UU ℕ

section Share

variable (kap : Dev nD → S100.Idx → Elt F .f32) (tt : Dev nD → S1x2097152.Idx → Elt F .i32) (a0 : Dev nD → S1x2097152.Idx → Elt F .f32)
variable (d : Dev nD)

/-- The table's location. -/
abbrev kLoc : Loc nD τ sig := (SparseCore.T d).loc main_v0
/-- The indices' location. -/
abbrev tLoc : Loc nD τ sig := (SparseCore.T d).loc main_v1
/-- The gathered rows' location. -/
abbrev aLoc : Loc nD τ sig := (SparseCore.T d).loc main_v2

/-! ## The 1024 blocks of an array -/

/-- An element lies in the block its column falls in. -/
theorem mem_block (n : Fin 1024) (x : S1x2097152.Idx) : x ∈ (bRect n).set ↔ (x 1).val / 2048 = n.val := by
  rw [Rect.mem_set_unit]
  have h0 : (x 0).val < 1 := (x 0).isLt
  constructor
  · intro h
    have h1 : 2048 * n.val ≤ (x 1).val ∧ (x 1).val < 2048 * n.val + 2048 := h 1
    omega
  · intro h a
    match a with
    | 0 => show 0 ≤ (x 0).val ∧ (x 0).val < 0 + 1; omega
    | 1 => show 2048 * n.val ≤ (x 1).val ∧ (x 1).val < 2048 * n.val + 2048; omega
/-- Two blocks have no element in common. -/
theorem blocks_disjoint : ∀ n ∈ (Finset.univ : Finset (Fin 1024)), ∀ n' ∈ (Finset.univ : Finset (Fin 1024)), n ≠ n' → Disjoint (bRect n).set (bRect n').set := by
  intro n _ n' _ h
  rw [Finset.disjoint_left]
  intro x hx hx'
  exact h (Fin.ext (((mem_block n x).mp hx).symm.trans ((mem_block n' x).mp hx')))
/-- The 1024 blocks are the whole array. -/
theorem blocks_cover : (Finset.univ : Finset (Fin 1024)).biUnion (fun n => (bRect n).set) = Finset.univ := by
  ext x
  simp only [Finset.mem_biUnion, Finset.mem_univ, true_and, iff_true]
  have h1 : (x 1).val < 2097152 := (x 1).isLt
  exact ⟨⟨(x 1).val / 2048, by omega⟩, (mem_block _ x).mpr rfl⟩

/-- A product over the 1024 blocks, SparseCore by SparseCore, tile by tile, block by block. -/
theorem bigSep_blocks (Ψ : Fin 1024 → sProp 𝕄) :
    bigSep Finset.univ Ψ = bigSep Finset.univ fun c : Fin 2 => bigSep Finset.univ fun i : Fin 16 => bigSep (Finset.range 32) fun j => Ψ (bN (coordsV c i) j) := by
  rw [BI.bigSep_univ_equiv (finProdFinEquiv.trans (finCongr (show 32 * 32 = 1024 from rfl))) Ψ, BI.bigSep_univ_prod,
    BI.bigSep_univ_equiv (finProdFinEquiv.trans (finCongr (show 2 * 16 = 32 from rfl))), BI.bigSep_univ_prod]
  refine bigSep_congr fun c _ => bigSep_congr fun i _ => ?_
  refine Ring.bigSep_fin_eq_range 32 _ (fun j => Ψ (bN (coordsV c i) j)) fun j hj => congrArg Ψ (Fin.ext ?_)
  rw [bN_val _ _ hj]
  show 32 * (i.val + 16 * c.val) + j = j + 32 * (i.val + 16 * c.val)
  omega

/-- The indices are the 32 tiles' blocks together. -/
theorem tiles_eq (f : S1x2097152.Idx → Elt F .i32) :
    (tLoc d ↦{fullShare} f : sProp 𝕄) = bigSep Finset.univ fun c : Fin 2 => bigSep Finset.univ fun i : Fin 16 => tAll f d (coordsV c i) := by
  rw [← blocks_cover, pointsTo_biUnion _ _ blocks_disjoint, bigSep_blocks]
  refine bigSep_congr fun c _ => bigSep_congr fun i _ => ?_
  unfold tAll tP
  exact bigSep_congr fun j _ => congrArg (fun S => (tLoc d ↦[S]{fullShare} f : sProp 𝕄)) (View.set_slice_whole _ _).symm
/-- The gathered rows are the 32 tiles' blocks together. -/
theorem results_eq (f : S1x2097152.Idx → Elt F .f32) :
    (aLoc d ↦{fullShare} f : sProp 𝕄) = bigSep Finset.univ fun c : Fin 2 => bigSep Finset.univ fun i : Fin 16 => aAll d (coordsV c i) f := by
  rw [← blocks_cover, pointsTo_biUnion _ _ blocks_disjoint, bigSep_blocks]
  refine bigSep_congr fun c _ => bigSep_congr fun i _ => ?_
  unfold aAll aP
  exact bigSep_congr fun j _ => congrArg (fun S => (aLoc d ↦[S]{fullShare} f : sProp 𝕄)) (View.set_slice_whole _ _).symm

/-- What is left of the table's array once each tile has its share. -/
def kRest (f : S100.Idx → Elt F .f32) : sProp 𝕄 := kLoc d ↦{Transfers.shareDrop fullShare 32} f

/-- The table's 32 shares, by SparseCore and tile. -/
theorem shares_eq (f : S100.Idx → Elt F .f32) :
    (bigSep Finset.univ fun i : Fin 32 => (kLoc d ↦{Transfers.shareTok fullShare 32 i} f : sProp 𝕄))
      = bigSep Finset.univ fun c : Fin 2 => bigSep Finset.univ fun i : Fin 16 => kP f d (coordsV c i) (shr (coordsV c i)) := by
  rw [BI.bigSep_univ_equiv (finProdFinEquiv.trans (finCongr (show 2 * 16 = 32 from rfl))), BI.bigSep_univ_prod]
  refine bigSep_congr fun c _ => bigSep_congr fun i _ => ?_
  rfl

/-- The table, a share of it for each tile. -/
theorem table_split (f : S100.Idx → Elt F .f32) :
    (kLoc d ↦{fullShare} f : sProp 𝕄)
      ⊢ iprop(kRest d f ∗ bigSep Finset.univ fun c : Fin 2 => bigSep Finset.univ fun i : Fin 16 => kP f d (coordsV c i) (shr (coordsV c i))) := by
  rw [← shares_eq]
  exact Transfers.pointsTo_toks_split fullShare 32
/-- The tiles' shares and what was left of the table make it whole again. -/
theorem table_join (f : S100.Idx → Elt F .f32) :
    iprop(kRest d f ∗ bigSep Finset.univ fun c : Fin 2 => bigSep Finset.univ fun i : Fin 16 => kP f d (coordsV c i) (shr (coordsV c i)))
      ⊢ (kLoc d ↦{fullShare} f : sProp 𝕄) := by
  rw [← shares_eq]
  exact Transfers.pointsTo_toks_join fullShare 32

/-! ## What the call takes and hands back -/

/-- A family counted by an equal number is the same family. -/
theorem bigSep_cast {n n' : ℕ} (h : n = n') (Φ : Fin n' → sProp 𝕄) : (bigSep Finset.univ fun i : Fin n => Φ (Fin.cast h i)) = bigSep Finset.univ Φ := by
  subst h; rfl

/-- What a SparseCore is handed, by its 16 tiles. -/
theorem stP_eq (c : Fin (grid0.bound 0)) : stP kap tt a0 d c = bigSep Finset.univ fun i : Fin 16 => goP kap tt a0 d (coordsV c i) := by
  unfold stP
  exact bigSep_cast (nSub_zero (F := F)) (fun i : Fin 16 => goP kap tt a0 d (coordsV c i))
/-- What a SparseCore hands back, by its 16 tiles. -/
theorem dnP_eq (c : Fin (grid0.bound 0)) : dnP kap tt d c = bigSep Finset.univ fun i : Fin 16 => tdP kap tt d (coordsV c i) := by
  unfold dnP
  exact bigSep_cast (nSub_zero (F := F)) (fun i : Fin 16 => tdP kap tt d (coordsV c i))

/-- The SparseCores of the call are two. -/
theorem cores_eq (Φ : Fin (grid0.bound 0) → sProp 𝕄) (Ψ : Fin 2 → sProp 𝕄) (h : ∀ c : Fin 2, Φ c = Ψ c) :
    (bigSep Finset.univ fun c : Fin ((K (F := F)).nCore 0) => Φ c) = bigSep Finset.univ Ψ :=
  (bigSep_congr fun c _ => h (Fin.cast (nCore_zero (F := F)) c)).trans (bigSep_cast (nCore_zero (F := F)) Ψ)

/-- What the call is handed, by SparseCore and tile. -/
theorem st_eq : (bigSep Finset.univ fun c : Fin ((K (F := F)).nCore 0) => (P kap tt a0).st 0 d c : sProp 𝕄)
    = bigSep Finset.univ fun c : Fin 2 => bigSep Finset.univ fun i : Fin 16 => goP kap tt a0 d (coordsV c i) :=
  cores_eq (fun c => stP kap tt a0 d c) _ fun c => stP_eq kap tt a0 d c
/-- What the call hands back, by SparseCore and tile. -/
theorem dn_eq : (bigSep Finset.univ fun c : Fin ((K (F := F)).nCore 0) => (P kap tt a0).dn 0 d c : sProp 𝕄)
    = bigSep Finset.univ fun c : Fin 2 => bigSep Finset.univ fun i : Fin 16 => tdP kap tt d (coordsV c i) :=
  cores_eq (fun c => dnP kap tt d c) _ fun c => dnP_eq kap tt d c

/-- The three arrays, dealt to the call: the table's left share stays with the caller. -/
theorem callSplit :
    iprop((kLoc d ↦{fullShare} kap d) ∗ (tLoc d ↦{fullShare} tt d) ∗ (aLoc d ↦{fullShare} a0 d))
      ⊢ iprop((bigSep Finset.univ fun c : Fin ((K (F := F)).nCore 0) => (P kap tt a0).st 0 d c : sProp 𝕄) ∗ kRest d (kap d)) := by
  rw [st_eq]
  unfold goP
  simp only [bigSep_sep']
  iintro ⟨Hk, Ht, Ha⟩
  ihave H := (table_split d (kap d)) $$ Hk
  icases H with ⟨Hr, Hk⟩
  isplitr [Hr]; swap; (· iexact Hr)
  isplitl [Hk]; · iexact Hk
  isplitl [Ht]
  · iapply (Entails.of_eq (tiles_eq d (tt d))); iexact Ht
  iapply (Entails.of_eq (results_eq d (a0 d))); iexact Ha

/-- What the call hands back, with the table's left share: the table and the indices as they were, the result gathered. -/
theorem callJoin :
    iprop((bigSep Finset.univ fun c : Fin ((K (F := F)).nCore 0) => (P kap tt a0).dn 0 d c : sProp 𝕄) ∗ kRest d (kap d))
      ⊢ iprop((kLoc d ↦{fullShare} kap d) ∗ (tLoc d ↦{fullShare} tt d) ∗ aLoc d ↦{fullShare} gath (kap d) (tt d)) := by
  rw [dn_eq]
  unfold tdP
  simp only [bigSep_sep']
  iintro ⟨⟨Hk, Ht, Ha⟩, Hr⟩
  isplitl [Hk Hr]
  · iapply (table_join d (kap d)); isplitl [Hr] <;> iassumption
  isplitl [Ht]
  · iapply (Entails.of_eq (tiles_eq d (tt d)).symm); iexact Ht
  iapply (Entails.of_eq (results_eq d (gath (kap d) (tt d))).symm); iexact Ha

end Share

end Cert.Proof.KI

end

end
-- ==== Proof.Tc.lean ====
module

public import proofs.«01_k».proof.Proof.Base
public import proofs.«01_k».proof.Proof.Gen.KernelIdeal.Skeleton
public import Idealize.ShloMosaic.Lib.Pipeline.Regions
public import Idealize.ShloMosaic.Lib.Pipeline.RegionArraysS
public import Idealize.ShloMosaic.Lib.Pipeline.ValueKit
public import Idealize.ShloMosaic.Lib.Tactic
public import Idealize.ShloMosaic.Lib.VecWindow
public import Idealize.ShloMosaic.Lib.ValueLayout

@[expose] public section

noncomputable section

namespace Cert.Proof.KI

open Cert.KernelIdeal Cert.KernelIdeal.Gen
open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig (HIx 1) (Elt F) ℕ UU ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
/-- A whole buffer of the TensorCore with its contents. -/
abbrev pt (c : Dev nD) {sp : Space} {S : Shape} {e : EltTy} (M : Memref sig .tc sp S e) (f : Bf (F := F) c M) : sProp 𝕄 :=
  M.view.loc (c : Thread nD τ) ↦{fullShare} f

/-- The cosine block the body stores first: the matmul of the amplitudes with the one-hot selection, times the cosine polynomial, plus the block of `G_c`. -/
def cosB (x gc : Vec F S512x384 .f32) (a : Vec F S512x128 .f32) : FVec F S512x384 .f32 := k1_pay6 (k1_pay2 a) (k1_pay4 x) gc

/-- The sine block the body stores second. -/
def sinB (x gs : Vec F S512x384 .f32) (a : Vec F S512x128 .f32) : FVec F S512x384 .f32 :=
  k1_pay7 (k1_pay2 a) (k1_pay3 x) (k1_pay4 x) (k1_pay5 x) gs

/-- The angle's block, scaled and shifted, which the body stores last. -/
def nextB (x gc gs : Vec F S512x384 .f32) (a : Vec F S512x128 .f32) : FVec F S1x512x384 .f32 :=
  k1_pay1 (k1_pay10 (cosB x gc a) (sinB x gs a) (k1_pay8 (k1_pay2 a) (k1_pay4 x) gc) (k1_pay9 (k1_pay2 a) (k1_pay3 x) (k1_pay4 x) (k1_pay5 x) gs))
    (Named.named κ "inv_two_pi" 0x3E22F983#32)

/-- What one run of the body leaves in the result's block, as a function of the four blocks it reads: slab 0 the cosine, slab 1 the sine, slab 2 the next angle. -/
def blkOut (x gc gs : Vec F S512x384 .f32) (a : Vec F S512x128 .f32) : S3x512x384.Idx → F .f32 := fun y =>
  if (y 0).val = 0 then cosB x gc a (ix2 (y 1) (y 2)) else if (y 0).val = 1 then sinB x gs a (ix2 (y 1) (y 2)) else nextB x gc gs a (ix3 0 (y 1) (y 2))

set_option maxHeartbeats 1000000 in
/-- One run of the TensorCore body, from its five staging buffers held whole: the four it reads are as they were, and the result's reads as `blkOut` of what those four read. -/
theorem tcRun (c : Dev nD) (i : grid1.Coords) (M1 : Memref sig .tc .vmem S512x384 .f32) (h1 : M1.IsWhole) (M2 : Memref sig .tc .vmem S512x384 .f32) (h2 : M2.IsWhole)
    (M3 : Memref sig .tc .vmem S512x384 .f32) (h3 : M3.IsWhole) (M4 : Memref sig .tc .vmem S512x128 .f32) (h4 : M4.IsWhole)
    (M5 : Memref sig .tc .vmem S3x512x384 .f32) (h5 : M5.IsWhole)
    (f1 : Bf (F := F) c M1) (f2 : Bf (F := F) c M2) (f3 : Bf (F := F) c M3) (f4 : Bf (F := F) c M4) (f5 : Bf (F := F) c M5) (E : Set ℕ) (Q : PUnit → sProp 𝕄) :
    iprop(pt c M1 f1 ∗ pt c M2 f2 ∗ pt c M3 f3 ∗ pt c M4 f4 ∗ pt c M5 f5
        ∗ (iprop(pt c M1 f1 ∗ pt c M2 f2 ∗ pt c M3 f3 ∗ pt c M4 f4
          ∗ ∃ g : Bf (F := F) c M5, ⌜M5.view.read (Elt F) g = blkOut (M1.view.read (Elt F) f1) (M2.view.read (Elt F) f2) (M3.view.read (Elt F) f3) (M4.view.read (Elt F) f4)⌝ ∗ pt c M5 g) -∗ Q ⟨⟩))
      ⊢ wp frame (wpE (defs₀ (F := F)) Variants.none c none) E (cc1__tc_body i M1 h1 M2 h2 M3 h3 M4 h4 M5 h5) Q := by
  rw [cc1__tc_body_eq_skeleton]
  unfold cc1__tc_body_skel
  simp only [k1_part1_eq_skeleton, k1_part2_eq_skeleton, k1_part3_eq_skeleton, k1_part1_skel, k1_part2_skel, k1_part3_skel]
  iintro ⟨H1, H2, H3, H4, H5, Hk⟩
  sl_exec
  sl_step
  iapply Hk
  isplitl [H1]; · iexact H1
  isplitl [H2]; · iexact H2
  isplitl [H3]; · iexact H3
  isplitl [H4]; · iexact H4
  iexists _
  isplitr; swap; (· iexact H5)
  ipureintro
  rw [View.read_writes_eq_canon _ _ _ (View.cover_of_tiled_head _ _ _ (by rfl))]
  have e1 : View.readAt (Elt F) M1.view (Rect.unit ![0, 0] S512x384.size inb_S512x384_S512x384_0_0).toLoadRect f1 = M1.view.read (Elt F) f1 := View.readAt_full _ _ _
  have e2 : View.readAt (Elt F) M2.view (Rect.unit ![0, 0] S512x384.size inb_S512x384_S512x384_0_0).toLoadRect f2 = M2.view.read (Elt F) f2 := View.readAt_full _ _ _
  have e3 : View.readAt (Elt F) M3.view (Rect.unit ![0, 0] S512x384.size inb_S512x384_S512x384_0_0).toLoadRect f3 = M3.view.read (Elt F) f3 := View.readAt_full _ _ _
  have e4 : View.readAt (Elt F) M4.view (Rect.unit ![0, 0] S512x128.size inb_S512x128_S512x128_0_0).toLoadRect f4 = M4.view.read (Elt F) f4 := View.readAt_full _ _ _
  rw [e1, e2, e3, e4]
  generalize M1.view.read (Elt F) f1 = X1
  generalize M2.view.read (Elt F) f2 = X2
  generalize M3.view.read (Elt F) f3 = X3
  generalize M4.view.read (Elt F) f4 = X4
  funext y
  have hx : ∀ x : S1x512x384.Idx, (y 1).val = (x 1).val → (y 2).val = (x 2).val → x = ix3 0 (y 1) (y 2) := fun x h1 h2 => by
    funext a; fin_cases a
    · exact Fin.ext (by have : (x 0).val < 1 := (x 0).isLt; show (x 0).val = 0; omega)
    · exact Fin.ext h1.symm
    · exact Fin.ext h2.symm
  simp only [k1_pay11, k1_pay12]
  canon_tiles x h
  · have e : blkOut X1 X2 X3 X4 y = nextB X1 X2 X3 X4 (ix3 0 (y 1) (y 2)) := by
      unfold blkOut; rw [if_neg (by omega), if_neg (by omega)]
    rw [e, hx x (by assumption) (by assumption)]; rfl
  · have e : blkOut X1 X2 X3 X4 y = sinB X1 X3 X4 (ix2 (y 1) (y 2)) := by
      unfold blkOut; rw [if_neg (by omega), if_pos (by omega)]
    rw [e, hx x (by assumption) (by assumption)]
    exact ValueIdx.shapeCast_ab_1ab_apply _ _ _ _ _
  · have e : blkOut X1 X2 X3 X4 y = cosB X1 X2 X4 (ix2 (y 1) (y 2)) := by
      unfold blkOut; rw [if_pos (by omega)]
    rw [e, hx x (by assumption) (by assumption)]
    exact ValueIdx.shapeCast_ab_1ab_apply _ _ _ _ _

end Cert.Proof.KI

end

end
-- ==== Proof.Region.lean ====
module

public import proofs.«01_k».proof.Proof.Tc

@[expose] public section

noncomputable section

namespace Cert.Proof.KI

open Cert.KernelIdeal Cert.KernelIdeal.Gen
open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig (HIx 1) (Elt F) ℕ UU ℕ

/-! ## The pipeline's layout -/

/-- The region's semaphores are distinct cells. -/
theorem phinj1 : Function.Injective (cellOf (nD := nD) (τ := τ) (cfgs)) := by decide +kernel
/-- The windows' shapes and sizes fit. -/
theorem winFacts1 : Pipeline.WinFacts (spec1) := by decide +kernel
/-- No window's block is empty. -/
theorem block_pos1 : ∀ w : Fin 5, 0 < (spec1 w).block.numel := by decide +kernel
/-- Each window's array is a whole buffer. -/
theorem arr_whole1 : ∀ w : Fin 5, (spec1 w).arr.IsWhole := by
  intro w; fin_cases w <;> exact Memref.isWhole_whole _
/-- Each window's stage is a whole buffer. -/
theorem stage_whole1 : ∀ (w : Fin 5) (s : Fin (spec1 w).nbuf), ((spec1 w).stage s).IsWhole := by
  intro w; fin_cases w
  · exact hstage1_0
  · exact hstage1_1
  · exact hstage1_2
  · exact hstage1_3
  · exact hstage1_4
/-- The grid has 32 iterations. -/
theorem N1 : cfg1.N = 32 := by decide +kernel
/-- Every input's block is fetched in every iteration. -/
theorem fetch1 : ∀ (w : Fin 5) (t : Fin cfg1.N), w ≠ 4 → (cfg1.win w).fetch t = true := by decide +kernel

variable (V : (c : Dev nD) → (b : Ref sig .tc) → Buf (Elt F) ((c : Thread nD τ).loc b))

/-- The blocks of the four arrays the body reads, at point `t`: the angles', the two offsets' and the amplitudes'. -/
abbrev bX (c : Dev nD) (t : Fin cfg1.N) : S512x384.Idx → F .f32 := ((cfg1.win 0).blk t).view.read (Elt F) (V c main_v3)
/-- The second array's block of iteration `t`. -/
abbrev bC (c : Dev nD) (t : Fin cfg1.N) : S512x384.Idx → F .f32 := ((cfg1.win 1).blk t).view.read (Elt F) (V c main_v4)
/-- The third array's block of iteration `t`. -/
abbrev bS (c : Dev nD) (t : Fin cfg1.N) : S512x384.Idx → F .f32 := ((cfg1.win 2).blk t).view.read (Elt F) (V c main_v5)
/-- The amplitudes' block of iteration `t`. -/
abbrev bA (c : Dev nD) (t : Fin cfg1.N) : S512x128.Idx → F .f32 := ((cfg1.win 3).blk t).view.read (Elt F) (V c main_v6)

/-- What the region keeps besides its stages. -/
abbrev Φc (c : Dev nD) : sProp 𝕄 := Pipeline.scopedRest (Ix := HIx 1) (Name := ℕ) (U := UU) (Lvl := ℕ) (Val := Elt F) spec1 c

/-- The region's proof data. -/
def dat (c : Dev nD) : Dat τ (Elt F) (HIx 1) ℕ UU ℕ cfg1 c where
  A w := V c (Pipeline.arrRef spec1 w)
  after w t := match w with
    | ⟨0, _⟩ => bX V c t
    | ⟨1, _⟩ => bC V c t
    | ⟨2, _⟩ => bS V c t
    | ⟨3, _⟩ => bA V c t
    | ⟨4, _⟩ => blkOut (bX V c t) (bC V c t) (bS V c t) (bA V c t)
  Φ _ := Φc c
  q _ := fullShare
  owed _ := 0
  recorded _ := {p | (K (F := F)).lev ((SparseCore.T c : Thread nD τ), p.1) p.2 ≤ 8}

/-- A separating product over the five windows. -/
theorem bigSep_W5 (Φ : Fin 5 → sProp 𝕄) : bigSep Finset.univ Φ = iprop(Φ 0 ∗ Φ 1 ∗ Φ 2 ∗ Φ 3 ∗ Φ 4) := by
  rw [show (Finset.univ : Finset (Fin 5)) = {0, 1, 2, 3, 4} from rfl, bigSep_insert (by decide), bigSep_insert (by decide),
    bigSep_insert (by decide), bigSep_insert (by decide), bigSep_singleton]
  rfl

/-- In iteration `t` the first stage holds the first array's block. -/
theorem before0 (c : Dev nD) (t : Fin cfg1.N) (d : (cfg1.win 0).block.Idx → Elt F (cfg1.win 0).elt) : (dat V c).before 0 t d = bX V c t := by
  unfold Dat.before; rw [if_pos (fetch1 0 t (by decide))]; rfl
/-- In iteration `t` the second stage holds the second array's block. -/
theorem before1 (c : Dev nD) (t : Fin cfg1.N) (d : (cfg1.win 1).block.Idx → Elt F (cfg1.win 1).elt) : (dat V c).before 1 t d = bC V c t := by
  unfold Dat.before; rw [if_pos (fetch1 1 t (by decide))]; rfl
/-- In iteration `t` the third stage holds the third array's block. -/
theorem before2 (c : Dev nD) (t : Fin cfg1.N) (d : (cfg1.win 2).block.Idx → Elt F (cfg1.win 2).elt) : (dat V c).before 2 t d = bS V c t := by
  unfold Dat.before; rw [if_pos (fetch1 2 t (by decide))]; rfl
/-- In iteration `t` the fourth stage holds the amplitudes' block. -/
theorem before3 (c : Dev nD) (t : Fin cfg1.N) (d : (cfg1.win 3).block.Idx → Elt F (cfg1.win 3).elt) : (dat V c).before 3 t d = bA V c t := by
  unfold Dat.before; rw [if_pos (fetch1 3 t (by decide))]; rfl

/-- Owning a whole staging memref at contents is its buffer held whole, read as those contents. -/
theorem owns_pt (c : Dev nD) {sp : Space} {S : Shape} {e : EltTy} (M : Memref sig .tc sp S e) (h : M.IsWhole) (X : S.Idx → Elt F e) :
    (owns (c : Thread nD τ) M fullShare X : sProp 𝕄) = iprop(∃ f, ⌜M.view.read (Elt F) f = X⌝ ∗ pt c M f) := by
  unfold owns; rw [h.set_eq_univ]

set_option maxHeartbeats 1000000 in
/-- The body at every point, from the invariant and the staging buffers. -/
theorem body_obligation (c : Dev nD) : BodyObligation (dat V c) (defs₀ (F := F)) Variants.none none Set.univ := fun t => by
  rw [bigSep_W5, bigSep_W5]
  dsimp only
  have e0 := owns_pt (F := F) c (stage1_0 (cfg1.slots t 0)) (hstage1_0 _)
  have e1 := owns_pt (F := F) c (stage1_1 (cfg1.slots t 1)) (hstage1_1 _)
  have e2 := owns_pt (F := F) c (stage1_2 (cfg1.slots t 2)) (hstage1_2 _)
  have e3 := owns_pt (F := F) c (stage1_3 (cfg1.slots t 3)) (hstage1_3 _)
  have e4 := owns_pt (F := F) c (stage1_4 (cfg1.slots t 4)) (hstage1_4 _)
  rw [show (dat V c).Φ t.castSucc = Φc c from rfl, show (dat V c).Φ t.succ = Φc c from rfl,
    show (dat V c).owesAt none t.succ = (dat V c).owesAt none t.castSucc from rfl]
  simp only [e0, e1, e2, e3, e4]
  iintro ⟨HΦ, Howes, ⟨%d0, %f0, %h0, H0⟩, ⟨%d1, %f1, %h1, H1⟩, ⟨%d2, %f2, %h2, H2⟩, ⟨%d3, %f3, %h3, H3⟩, ⟨%d4, %f4, -, H4⟩⟩
  rw [before0] at h0; rw [before1] at h1; rw [before2] at h2; rw [before3] at h3
  iapply (tcRun c (grid1.coords t) (stage1_0 (cfg1.slots t 0)) (hstage1_0 _) (stage1_1 (cfg1.slots t 1)) (hstage1_1 _)
    (stage1_2 (cfg1.slots t 2)) (hstage1_2 _) (stage1_3 (cfg1.slots t 3)) (hstage1_3 _) (stage1_4 (cfg1.slots t 4)) (hstage1_4 _) f0 f1 f2 f3 f4 Set.univ _)
  isplitl [H0]; · iexact H0
  isplitl [H1]; · iexact H1
  isplitl [H2]; · iexact H2
  isplitl [H3]; · iexact H3
  isplitl [H4]; · iexact H4
  iintro ⟨H0, H1, H2, H3, ⟨%g, %hg, H4⟩⟩
  isplitl [HΦ]; · iexact HΦ
  isplitl [Howes]; · iexact Howes
  isplitl [H0]; · iexists f0; isplitr; (· ipureintro; exact h0); iexact H0
  isplitl [H1]; · iexists f1; isplitr; (· ipureintro; exact h1); iexact H1
  isplitl [H2]; · iexists f2; isplitr; (· ipureintro; exact h2); iexact H2
  isplitl [H3]; · iexists f3; isplitr; (· ipureintro; exact h3); iexact H3
  iexists g; isplitr; swap; (· iexact H4)
  ipureintro
  rw [hg, h0, h1, h2, h3]; rfl

end Cert.Proof.KI

end

end
-- ==== Proof.Array.lean ====
module

public import proofs.«01_k».proof.Proof.Region

@[expose] public section

noncomputable section

namespace Cert.Proof.KI

open Cert.KernelIdeal Cert.KernelIdeal.Gen
open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig (HIx 1) (Elt F) ℕ UU ℕ

/-- 512 rows of an array of 384 columns, from row `512 q`. -/
def rows384 (X : S16384x384.Idx → F .f32) (q : Fin 32) : S512x384.Idx → F .f32 :=
  fun p => X (ix2 ⟨512 * q.val + (p 0).val, by have : (p 0).val < 512 := (p 0).isLt; omega⟩ (p 1))

/-- 512 rows of the amplitudes' array, from row `512 q`. -/
def rows128 (A : S16384x128.Idx → F .f32) (q : Fin 32) : S512x128.Idx → F .f32 :=
  fun p => A (ix2 ⟨512 * q.val + (p 0).val, by have : (p 0).val < 512 := (p 0).isLt; omega⟩ (p 1))

/-- The result array the TensorCore call leaves: row `r` of each of its three slabs is row `r % 512` of what the body leaves from the blocks of row `r / 512`. -/
def tcArr (X C S : S16384x384.Idx → F .f32) (A : S16384x128.Idx → F .f32) : S3x16384x384.Idx → F .f32 := fun y =>
  have hr : (y 1).val < 16384 := (y 1).isLt
  let q : Fin 32 := ⟨(y 1).val / 512, by omega⟩
  blkOut (rows384 X q) (rows384 C q) (rows384 S q) (rows128 A q) (ix3 (y 0) ⟨(y 1).val % 512, Nat.mod_lt _ (by decide)⟩ (y 2))

variable (V : (c : Dev nD) → (b : Ref sig .tc) → Buf (Elt F) ((c : Thread nD τ).loc b))

/-- An iteration of the TensorCore call is one of 32. -/
theorem ttLt (t : Fin cfg1.N) : t.val < 32 := N1 ▸ t.isLt

/-- The first array's window: iteration `t` has block `t` of its rows. -/
theorem at1_0 : ∀ t : Fin grid1.N, win1_0.index t 0 = t.val ∧ win1_0.index t 1 = 0 := by decide +kernel
/-- The first array's block is its 512 rows. -/
theorem bX_eq (c : Dev nD) (t : Fin cfg1.N) : bX V c t = rows384 (V c main_v3) ⟨t.val, ttLt t⟩ := by
  funext p
  show V c main_v3 ((win1_0.blk t).view.emb p) = V c main_v3 _
  refine congrArg (V c main_v3) (funext fun a => ?_)
  have hat := at1_0 t
  fin_cases a
  · refine Fin.ext ?_
    show ((win1_0.blk t).view.emb p 0 : ℕ) = 512 * t.val + (p 0).val
    blk_simp; rw [hat.1]; omega
  · refine Fin.ext ?_
    show ((win1_0.blk t).view.emb p 1 : ℕ) = (p 1).val
    blk_simp; rw [hat.2]; omega

/-- The second array's window: iteration `t` has block `t` of its rows. -/
theorem at1_1 : ∀ t : Fin grid1.N, win1_1.index t 0 = t.val ∧ win1_1.index t 1 = 0 := by decide +kernel
/-- The second array's block is its 512 rows. -/
theorem bC_eq (c : Dev nD) (t : Fin cfg1.N) : bC V c t = rows384 (V c main_v4) ⟨t.val, ttLt t⟩ := by
  funext p
  show V c main_v4 ((win1_1.blk t).view.emb p) = V c main_v4 _
  refine congrArg (V c main_v4) (funext fun a => ?_)
  have hat := at1_1 t
  fin_cases a
  · refine Fin.ext ?_
    show ((win1_1.blk t).view.emb p 0 : ℕ) = 512 * t.val + (p 0).val
    blk_simp; rw [hat.1]; omega
  · refine Fin.ext ?_
    show ((win1_1.blk t).view.emb p 1 : ℕ) = (p 1).val
    blk_simp; rw [hat.2]; omega

/-- The third array's window: iteration `t` has block `t` of its rows. -/
theorem at1_2 : ∀ t : Fin grid1.N, win1_2.index t 0 = t.val ∧ win1_2.index t 1 = 0 := by decide +kernel
/-- The third array's block is its 512 rows. -/
theorem bS_eq (c : Dev nD) (t : Fin cfg1.N) : bS V c t = rows384 (V c main_v5) ⟨t.val, ttLt t⟩ := by
  funext p
  show V c main_v5 ((win1_2.blk t).view.emb p) = V c main_v5 _
  refine congrArg (V c main_v5) (funext fun a => ?_)
  have hat := at1_2 t
  fin_cases a
  · refine Fin.ext ?_
    show ((win1_2.blk t).view.emb p 0 : ℕ) = 512 * t.val + (p 0).val
    blk_simp; rw [hat.1]; omega
  · refine Fin.ext ?_
    show ((win1_2.blk t).view.emb p 1 : ℕ) = (p 1).val
    blk_simp; rw [hat.2]; omega

/-- The amplitudes' window: iteration `t` has block `t` of its rows. -/
theorem at1_3 : ∀ t : Fin grid1.N, win1_3.index t 0 = t.val ∧ win1_3.index t 1 = 0 := by decide +kernel
/-- The amplitudes' block is its 512 rows. -/
theorem bA_eq (c : Dev nD) (t : Fin cfg1.N) : bA V c t = rows128 (V c main_v6) ⟨t.val, ttLt t⟩ := by
  funext p
  show V c main_v6 ((win1_3.blk t).view.emb p) = V c main_v6 _
  refine congrArg (V c main_v6) (funext fun a => ?_)
  have hat := at1_3 t
  fin_cases a
  · refine Fin.ext ?_
    show ((win1_3.blk t).view.emb p 0 : ℕ) = 512 * t.val + (p 0).val
    blk_simp; rw [hat.1]; omega
  · refine Fin.ext ?_
    show ((win1_3.blk t).view.emb p 1 : ℕ) = (p 1).val
    blk_simp; rw [hat.2]; omega

/-- The result's window: iteration `t` has block `t` of the rows, in all three slabs. -/
theorem at1_4 : ∀ t : Fin grid1.N, win1_4.index t 0 = 0 ∧ win1_4.index t 1 = t.val ∧ win1_4.index t 2 = 0 := by decide +kernel

/-- The result's array after the last point. -/
theorem arrOut (c : Dev nD) : (dat V c).arrAt 4 cfg1.N = tcArr (V c main_v3) (V c main_v4) (V c main_v5) (V c main_v6) := by
  refine (dat V c).arrAt_eq_of_covers 4 _ (by decide +kernel) fun t hf y => ?_
  blk_simp
  have hat := at1_4 t
  have ht := ttLt t
  have h0 : ((win1_4.blk t).view.emb y 0 : ℕ) = (y 0).val := by blk_simp; rw [hat.1]; omega
  have h1 : ((win1_4.blk t).view.emb y 1 : ℕ) = 512 * t.val + (y 1).val := by blk_simp; rw [hat.2.1]; omega
  have h2 : ((win1_4.blk t).view.emb y 2 : ℕ) = (y 2).val := by blk_simp; rw [hat.2.2]; omega
  have hy : (y 1).val < 512 := (y 1).isLt
  show blkOut (bX V c t) (bC V c t) (bS V c t) (bA V c t) y = _
  rw [bX_eq, bC_eq, bS_eq, bA_eq]
  unfold tcArr
  have hq : ((win1_4.blk t).view.emb y 1 : ℕ) / 512 = t.val := by omega
  have hm : ((win1_4.blk t).view.emb y 1 : ℕ) % 512 = (y 1).val := by omega
  have e : (y : S3x512x384.Idx) = ix3 ((win1_4.blk t).view.emb y 0) ⟨((win1_4.blk t).view.emb y 1 : ℕ) % 512, Nat.mod_lt _ (by decide)⟩ ((win1_4.blk t).view.emb y 2) := by
    funext a; fin_cases a
    · exact Fin.ext h0.symm
    · exact Fin.ext hm.symm
    · exact Fin.ext h2.symm
  have eq : (⟨((win1_4.blk t).view.emb y 1 : ℕ) / 512, by omega⟩ : Fin 32) = ⟨t.val, ht⟩ := Fin.ext hq
  dsimp only
  rw [eq]
  exact congrArg (blkOut (rows384 (V c main_v3) ⟨t.val, ht⟩) (rows384 (V c main_v4) ⟨t.val, ht⟩) (rows384 (V c main_v5) ⟨t.val, ht⟩) (rows128 (V c main_v6) ⟨t.val, ht⟩)) e

/-! ## The region over the TensorCore's unscoped buffers -/

/-- The call's windows are admissible. -/
abbrev adm1 : (p : Fin 1) → (pcfgs (F := F) p).Adm := fun p => (cfgs p).toPCfg_adm

/-- The proof data of every pipeline: there is one. -/
def pdats : (p : Fin 1) → (c : Dev nD) → Dat τ (Elt F) (HIx 1) ℕ UU ℕ (Pipeline.pin (pcfgs (F := F)) adm1 p) c := fun _ c => dat V c

variable (Vp : (c : Dev nD) → (b : Ref sig .tc) → Buf (Elt F) ((c : Thread nD τ).loc b))

/-- What the region asks of the core's debts, and gives back: none, with every pair its waits recorded at level 8 or below. -/
def oweSt (c : Dev nD) : sProp 𝕄 :=
  iprop(∃ W, ⌜(K (F := F)).WBelow (SparseCore.T c) W 8⌝ ∗ owes (c : Thread nD τ) (0 : CellTallies nD τ sig (HIx 1)) W)

set_option backward.isDefEq.respectTransparency.types false in
/-- The TensorCore call as a region: entered with every unscoped buffer at `V`, left with the result's array at its new contents and every other as it was. -/
def reg (hout : ∀ c, Vp c main_v7 = tcArr (V c main_v3) (V c main_v4) (V c main_v5) (V c main_v6))
    (hne : ∀ c (b : Ref sig .tc), b ≠ main_v7 → Vp c b = V c b) :
    Pipeline.RegionSeg (pcfgs (F := F)) adm1 (pdats V) none (defs₀ (F := F)) Variants.none (K (F := F)).L (K (F := F)).lev 0 where
  win := winFacts1.to₀
  block_pos := block_pos1
  stage_whole := stage_whole1
  K := PEmpty
  osem k := k.elim
  ho := Pipeline.OwnSemFacts.none _
  hbody c := (body_obligation V c).loose
  hwaits := Pipeline.hwaits_of_owed_zero _ _ _ _ _ _ 0 fun _ _ => rfl
  pre c := iprop(unscopedBufs c (V c) ∗ oweSt c)
  post c := iprop(unscopedBufs c (Vp c) ∗ oweSt c)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm1 (pdats V) winFacts1 arr_whole1 c
      ((pdats V 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold oweSt Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V 0 c).Φ 0 = Φc c from rfl]
    iintro ⟨-, -, Hr⟩; iexact Hr
  hout c := by
    rw [Pipeline.ownSems0_none, show (pdats V 0 c).Φ (Fin.last _) = Φc c from rfl]
    iintro Hr
    isplitr; · iempintro
    isplitr; · iempintro
    iexact Hr
  hexit c := by
    have hjoin := Pipeline.unscopedBufs_of_arrays (p := 0) (pcfgs (F := F)) adm1 (Ix := HIx 1) (Name := ℕ) (U := UU) (Lvl := ℕ) winFacts1 arr_whole1 c
      (pdats V) ((pdats V 0 c).share_full fun _ => rfl) (V c) (Vp c) ((pdats V 0 c).arrAt · cfg1.N)
      (fun w => by
        fin_cases w
        · exact ((pdats V 0 c).arrAt_in 0 rfl _).trans (hne c main_v3 (by decide)).symm
        · exact ((pdats V 0 c).arrAt_in 1 rfl _).trans (hne c main_v4 (by decide)).symm
        · exact ((pdats V 0 c).arrAt_in 2 rfl _).trans (hne c main_v5 (by decide)).symm
        · exact ((pdats V 0 c).arrAt_in 3 rfl _).trans (hne c main_v6 (by decide)).symm
        · exact (arrOut V c).trans (hout c).symm)
      (fun b hb => hne c b fun h => hb (h ▸ Finset.mem_image.mpr ⟨4, Finset.mem_univ _, rfl⟩))
    iintro ⟨Ha, HO, -, Hrest⟩
    imodintro
    isplitl [Ha Hrest]
    · iapply hjoin; isplitl [Ha] <;> iassumption
    unfold oweSt Pipeline.Dat.owesAt Pipeline.owesWithin
    icases HO with ⟨%W, %hW, HO⟩; iexists W; isplitr; swap; (· iexact HO)
    ipureintro
    intro p hp
    rcases hW hp with h | ⟨w, s, rfl⟩
    · exact h
    · exact Nat.zero_le _

end Cert.Proof.KI

end

end
-- ==== Proof.Launch.lean ====
/- The program's run: the host's reshapes, the SparseCore call, the TensorCore call, and the last reshape. -/
module

public import proofs.«01_k».proof.Proof.Share
public import proofs.«01_k».proof.Proof.Array

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type} [FloatOps F] [Named F]

local notation "𝕄" => MT nD τ sig (HIx 1) (Elt F) ℕ UU ℕ

section Launch

variable (m : (ℓ : Loc nD τ sig) → Buf (Elt F) ℓ) (ρ : Dev nD → PrngReg)

/-- A host array of the program on a device. -/
abbrev hLoc (d : Dev nD) (r : Ref sig .tc) : Loc nD τ sig := (SparseCore.T d).loc r
/-- The same array, named as the host's operations name it. -/
abbrev hRef (r : Ref sig .tc) : DevRef τ sig := Proc.devRef .tc r

/-- The table and the indices as the SparseCore call gets them, and what its result's array holds before it. -/
def kapD (d : Dev nD) : S100.Idx → Elt F .f32 := shapeCast S100 (m (hLoc d main_arg4)) shapeCasts_S100x1_S100
/-- The indices the SparseCore call reads: the argument as one row. -/
def ttD (d : Dev nD) : S1x2097152.Idx → Elt F .i32 := shapeCast S1x2097152 (m (hLoc d main_arg3)) shapeCasts_S2097152_S1x2097152
/-- The gathered rows' array before the call. -/
def a0D (d : Dev nD) : S1x2097152.Idx → Elt F .f32 := m (aLoc d)
/-- What the call's handshakes carry, at the launch's contents. -/
abbrev Pm : (K (F := F)).Pay (nD := nD) (Val := Elt F) (Name := ℕ) (U := UU) := P (kapD m) (ttD m) (a0D m)

/-- The four arrays the TensorCore call reads, and the one it writes. -/
def xD (d : Dev nD) : S16384x384.Idx → Elt F .f32 := shapeCast S16384x384 (m (hLoc d main_arg0)) shapeCasts_S2097152x3_S16384x384
/-- The second argument in rows of 384. -/
def cD (d : Dev nD) : S16384x384.Idx → Elt F .f32 := shapeCast S16384x384 (m (hLoc d main_arg1)) shapeCasts_S2097152x3_S16384x384
/-- The third argument in rows of 384. -/
def sD (d : Dev nD) : S16384x384.Idx → Elt F .f32 := shapeCast S16384x384 (m (hLoc d main_arg2)) shapeCasts_S2097152x3_S16384x384
/-- The gathered amplitudes in rows of 128. -/
def aD (d : Dev nD) : S16384x128.Idx → Elt F .f32 := shapeCast S16384x128 (gath (kapD m d) (ttD m d)) shapeCasts_S1x2097152_S16384x128
/-- The TensorCore call's result. -/
def oD (d : Dev nD) : S3x16384x384.Idx → Elt F .f32 := tcArr (xD m d) (cD m d) (sD m d) (aD m d)
/-- The program's result. -/
def resD (d : Dev nD) : S3x2097152x3.Idx → Elt F .f32 := shapeCast S3x2097152x3 (oD m d) shapeCasts_S3x16384x384_S3x2097152x3

/-! ## The launch element: the handshakes' rounds, the pipeline's rounds, and the copies' counters -/

/-- Where the pipeline's rounds lie in the launch element. -/
def EP : Emb UQ 𝕄 := (Emb.inl : Emb UQ (UQ × Counters)).trans (embR (A := UH) (B := UQ × Counters))
/-- The region's ghost state lands in the program's. -/
instance EP_lands : (EP (F := F)).LandsIn (upEmb : UEmb _ 𝕄) := by unfold EP embR; infer_instance

/-- The pipeline at its one set of tables. -/
abbrev cfgsP := Pipeline.pin (pcfgs (F := F)) adm1

/-- The ghost state at the launch. -/
def u₀ : UU := (initOf (K (F := F)).hsCells (K (F := F)).hsToks,
  (initOf (Pipeline.cells (nD := nD) (τ := τ) (cfgsP (F := F)) phinj1) (Pipeline.launchToks (nD := nD) (τ := τ) (cfgsP (F := F)) phinj1), 1))

/-- What the launch deals a device's TensorCore for the pipeline. -/
def ghost (d : Dev nD) : sProp 𝕄 :=
  iprop(Pipeline.cellsGhost (cfgsP (F := F)) (EP (F := F)) 0 d ∗ Pipeline.toksInit (cfgsP (F := F)) (EP (F := F)) 0 d)

/-- The launch element yields the handshakes' ghost state and each device's pipeline's. -/
theorem hu₀ : (ownU (u₀ (F := F)) : sProp 𝕄)
    ⊢ |={Set.univ}=> iprop(BI.own (EH (initOf (K (F := F)).hsCells (K (F := F)).hsToks)) ∗ (bigSep Finset.univ fun d : Dev nD => ghost (F := F) d)
        ∗ bigSep Finset.univ fun thr : Thread nD τ => bigSep Finset.univ fun q : Fin 1 => (Pm m).x q thr) := by
  unfold u₀ ghost
  rw [bigSep_sep']
  have hone (Φ : Fin 1 → Dev nD → sProp 𝕄) :
      (bigSep Finset.univ fun d : Dev nD => bigSep Finset.univ fun p : Fin 1 => Φ p d) = bigSep Finset.univ fun d : Dev nD => Φ 0 d :=
    bigSep_congr fun d _ => by rw [show (Finset.univ : Finset (Fin 1)) = {0} from rfl, bigSep_singleton]
  have hpair := own_pair_emb (embR (nD := nD) (τ := τ) (sig := sig) (Ix := HIx 1) (Val := Elt F) (Name := ℕ) (Lvl := ℕ) (A := UH) (B := UQ × Counters))
    (initOf (Pipeline.cells (nD := nD) (τ := τ) (cfgsP (F := F)) phinj1) (Pipeline.launchToks (nD := nD) (τ := τ) (cfgsP (F := F)) phinj1)) (1 : Counters)
  rw [show (Emb.inl : Emb UQ (UQ × Counters)).trans (embR (A := UH) (B := UQ × Counters)) = EP (F := F) from rfl] at hpair
  iintro Hu
  ihave H := (ownU_pair (initOf (K (F := F)).hsCells (K (F := F)).hsToks)
    (initOf (Pipeline.cells (nD := nD) (τ := τ) (cfgsP (F := F)) phinj1) (Pipeline.launchToks (nD := nD) (τ := τ) (cfgsP (F := F)) phinj1), (1 : Counters))) $$ Hu
  icases H with ⟨HH, HR⟩
  ihave H := hpair $$ HR
  icases H with ⟨HP, -⟩
  ihave H := (Pipeline.fund_ghost (cfgsP (F := F)) (EP (F := F)) phinj1) $$ HP
  imod H with ⟨Hc, Ht⟩
  imodintro
  isplitl [HH]; · iexact HH
  isplitl [Hc Ht]
  · isplitl [Hc]
    · iapply (Entails.of_eq (hone fun p d => Pipeline.cellsGhost (cfgsP (F := F)) (EP (F := F)) p d)); iexact Hc
    iapply (Entails.of_eq (hone fun p d => Pipeline.toksInit (cfgsP (F := F)) (EP (F := F)) p d)); iexact Ht
  iapply (Entails.of_eq (show (iprop(emp) : sProp 𝕄) = bigSep Finset.univ fun thr : Thread nD τ => bigSep Finset.univ fun q : Fin 1 => (Pm m).x q thr from
    ((bigSep_congr fun _ _ => bigSep_emp_const _).trans (bigSep_emp_const _)).symm))
  iempintro

/-! ## @main's arrays -/

/-- The host's reshape of the table. -/
abbrev opK : HloOp τ sig (Elt F) := StableHlo.reshape main_arg4 main_v0 (rfl : (.f32 : EltTy) = .f32) shapeCasts_S100x1_S100
/-- The host's reshape of the indices. -/
abbrev opT : HloOp τ sig (Elt F) := StableHlo.reshape main_arg3 main_v1 (rfl : (.i32 : EltTy) = .i32) shapeCasts_S2097152_S1x2097152
/-- The host's reshape of the first argument. -/
abbrev opX : HloOp τ sig (Elt F) := StableHlo.reshape main_arg0 main_v3 (rfl : (.f32 : EltTy) = .f32) shapeCasts_S2097152x3_S16384x384
/-- The host's reshape of the second argument. -/
abbrev opC : HloOp τ sig (Elt F) := StableHlo.reshape main_arg1 main_v4 (rfl : (.f32 : EltTy) = .f32) shapeCasts_S2097152x3_S16384x384
/-- The host's reshape of the third argument. -/
abbrev opS : HloOp τ sig (Elt F) := StableHlo.reshape main_arg2 main_v5 (rfl : (.f32 : EltTy) = .f32) shapeCasts_S2097152x3_S16384x384
/-- The host's reshape of the gathered rows. -/
abbrev opA : HloOp τ sig (Elt F) := StableHlo.reshape main_v2 main_v6 (rfl : (.f32 : EltTy) = .f32) shapeCasts_S1x2097152_S16384x128
/-- The host's reshape of the result. -/
abbrev opR : HloOp τ sig (Elt F) := StableHlo.reshape main_v7 main_v8 (rfl : (.f32 : EltTy) = .f32) shapeCasts_S3x16384x384_S3x2097152x3

/-- The TensorCore's unscoped arrays. -/
abbrev ucS : Finset (DevRef τ sig) := Pipeline.ucRefs τ sig

/-- The arrays' contents: at the launch, before the SparseCore call, after it, before the TensorCore call, after it, and at the end. -/
def V0 (d : Dev nD) : Valuation τ sig (Elt F) := fun b => m (d, b)
/-- The arrays after the table's reshape. -/
def V1 (d : Dev nD) : Valuation τ sig (Elt F) := (opK (F := F)).result (V0 m d)
/-- The arrays after the indices' reshape. -/
def V2 (d : Dev nD) : Valuation τ sig (Elt F) := (opT (F := F)).result (V1 m d)
/-- The arrays after the SparseCore call. -/
def V3 (d : Dev nD) : Valuation τ sig (Elt F) := Function.update (V2 m d) (hRef main_v2) (gath (kapD m d) (ttD m d))
/-- The arrays after the first argument's reshape. -/
def V4 (d : Dev nD) : Valuation τ sig (Elt F) := (opX (F := F)).result (V3 m d)
/-- The arrays after the second argument's reshape. -/
def V5 (d : Dev nD) : Valuation τ sig (Elt F) := (opC (F := F)).result (V4 m d)
/-- The arrays after the third argument's reshape. -/
def V6 (d : Dev nD) : Valuation τ sig (Elt F) := (opS (F := F)).result (V5 m d)
/-- The arrays after the gathered rows' reshape. -/
def V7 (d : Dev nD) : Valuation τ sig (Elt F) := (opA (F := F)).result (V6 m d)
/-- The arrays after the TensorCore call. -/
def V8 (d : Dev nD) : Valuation τ sig (Elt F) := Function.update (V7 m d) (hRef main_v7) (oD m d)
/-- The arrays at the end. -/
def V9 (d : Dev nD) : Valuation τ sig (Elt F) := (opR (F := F)).result (V8 m d)

/-- Two arrays of the host are two buffers. -/
theorem hRef_inj {r s : Ref sig .tc} (h : r ≠ s) : hRef r ≠ hRef s := fun e => h (Proc.devRef_injective _ e)

/-- The table's reshape writes its result alone. -/
theorem V1_other (d : Dev nD) {r : Ref sig .tc} (h : r ≠ main_v0) : V1 m d (hRef r) = m (hLoc d r) := StableHlo.reshape_result_ne _ _ _ _ _ _ _ h
/-- An array the first two reshapes do not write is as it was at the launch. -/
theorem V2_other (d : Dev nD) {r : Ref sig .tc} (h : r ≠ main_v0 ∧ r ≠ main_v1) : V2 m d (hRef r) = m (hLoc d r) :=
  (StableHlo.reshape_result_ne _ _ _ _ _ _ _ h.2).trans (V1_other m d h.1)
/-- The table, where the SparseCore call reads it. -/
theorem V2_k (d : Dev nD) : V2 m d (hRef main_v0) = kapD m d :=
  (StableHlo.reshape_result_ne _ _ _ _ _ _ _ (show (main_v0 : Ref sig .tc) ≠ main_v1 by decide)).trans (StableHlo.reshape_result main_arg4 main_v0 _ _ _ _ _)
/-- The indices, where the SparseCore call reads them. -/
theorem V2_t (d : Dev nD) : V2 m d (hRef main_v1) = ttD m d := by
  refine (StableHlo.reshape_result main_arg3 main_v1 _ _ _ _ _).trans ?_
  rw [V1_other m d (show (main_arg3 : Ref sig .tc) ≠ main_v0 by decide)]
  rfl
/-- The SparseCore call writes the gathered rows alone. -/
theorem V3_other (d : Dev nD) {b : DevRef τ sig} (h : b ≠ hRef main_v2) : V3 m d b = V2 m d b := Function.update_of_ne h _ _
/-- After the SparseCore call the rows are gathered. -/
theorem V3_a (d : Dev nD) : V3 m d (hRef main_v2) = gath (kapD m d) (ttD m d) := Function.update_self _ _ _
/-- An array nothing before the four reshapes writes is as it was at the launch. -/
theorem V3_arg (d : Dev nD) {r : Ref sig .tc} (h : r ≠ main_v0 ∧ r ≠ main_v1) (h2 : r ≠ main_v2) : V3 m d (hRef r) = m (hLoc d r) :=
  (V3_other m d (hRef_inj h2)).trans (V2_other m d h)
/-- The first argument's reshape writes its result alone. -/
theorem V4_other (d : Dev nD) {r : Ref sig .tc} (h : r ≠ main_v3) : V4 m d (hRef r) = V3 m d (hRef r) := StableHlo.reshape_result_ne _ _ _ _ _ _ _ h
/-- The second argument's reshape writes its result alone. -/
theorem V5_other (d : Dev nD) {r : Ref sig .tc} (h : r ≠ main_v4) : V5 m d (hRef r) = V4 m d (hRef r) := StableHlo.reshape_result_ne _ _ _ _ _ _ _ h
/-- The third argument's reshape writes its result alone. -/
theorem V6_other (d : Dev nD) {r : Ref sig .tc} (h : r ≠ main_v5) : V6 m d (hRef r) = V5 m d (hRef r) := StableHlo.reshape_result_ne _ _ _ _ _ _ _ h
/-- The gathered rows' reshape writes its result alone. -/
theorem V7_other (d : Dev nD) {r : Ref sig .tc} (h : r ≠ main_v6) : V7 m d (hRef r) = V6 m d (hRef r) := StableHlo.reshape_result_ne _ _ _ _ _ _ _ h
/-- The four arrays the TensorCore call reads. -/
theorem V7_x (d : Dev nD) : V7 m d (hRef main_v3) = xD m d := by
  rw [V7_other m d (by decide), V6_other m d (by decide), V5_other m d (by decide)]
  refine (StableHlo.reshape_result main_arg0 main_v3 _ _ _ _ _).trans ?_
  rw [V3_arg m d (by decide) (by decide)]; rfl
/-- The second array the TensorCore call reads. -/
theorem V7_c (d : Dev nD) : V7 m d (hRef main_v4) = cD m d := by
  rw [V7_other m d (by decide), V6_other m d (by decide)]
  refine (StableHlo.reshape_result main_arg1 main_v4 _ _ _ _ _).trans ?_
  rw [V4_other m d (by decide), V3_arg m d (by decide) (by decide)]; rfl
/-- The third array the TensorCore call reads. -/
theorem V7_s (d : Dev nD) : V7 m d (hRef main_v5) = sD m d := by
  rw [V7_other m d (by decide)]
  refine (StableHlo.reshape_result main_arg2 main_v5 _ _ _ _ _).trans ?_
  rw [V5_other m d (by decide), V4_other m d (by decide), V3_arg m d (by decide) (by decide)]; rfl
/-- The amplitudes the TensorCore call reads. -/
theorem V7_a (d : Dev nD) : V7 m d (hRef main_v6) = aD m d := by
  refine (StableHlo.reshape_result main_v2 main_v6 _ _ _ _ _).trans ?_
  rw [V6_other m d (by decide), V5_other m d (by decide), V4_other m d (by decide), V3_a]; rfl
/-- The TensorCore call writes its result alone. -/
theorem V8_other (d : Dev nD) {r : Ref sig .tc} (h : r ≠ main_v7) : V8 m d (hRef r) = V7 m d (hRef r) := Function.update_of_ne (hRef_inj h) _ _
/-- The TensorCore call's result, where the last reshape reads it. -/
theorem V8_o (d : Dev nD) : V8 m d (hRef main_v7) = oD m d := Function.update_self _ _ _
/-- The result's array at the end. -/
theorem V9_r (d : Dev nD) : V9 m d (hRef main_v8) = resD m d := by
  refine (StableHlo.reshape_result main_v7 main_v8 _ _ _ _ _).trans ?_
  rw [V8_o]; rfl
/-- An array the program never writes, at the end. -/
theorem V9_arg (d : Dev nD) {r : Ref sig .tc} (h : r ∉ [main_v0, main_v1, main_v2, main_v3, main_v4, main_v5, main_v6, main_v7, main_v8]) :
    V9 m d (hRef r) = m (hLoc d r) := by
  simp only [List.mem_cons, List.not_mem_nil, or_false, not_or] at h
  obtain ⟨h0, h1, h2, h3, h4, h5, h6, h7, h8⟩ := h
  exact (StableHlo.reshape_result_ne _ _ _ _ _ _ _ h8).trans ((V8_other m d h7).trans ((V7_other m d h6).trans ((V6_other m d h5).trans
    ((V5_other m d h4).trans ((V4_other m d h3).trans (V3_arg m d ⟨h0, h1⟩ h2))))))

/-- The arrays owned at the launch are the ones held. -/
theorem unscoped_held (d : Dev nD) : (unscopedBufs d (fun b => m ((SparseCore.T d).loc b)) : sProp 𝕄) = held (T d) ucS (V0 m d) :=
  Pipeline.unscopedBufs_held d (V0 m d)

/-- One array out of those held. -/
theorem held_take (d : Dev nD) {S : Finset (DevRef τ sig)} {b : DevRef τ sig} (hb : b ∈ S) (W : Valuation τ sig (Elt F)) :
    (held (T d) S W : sProp 𝕄) = iprop(((d, b) ↦{fullShare} W b) ∗ held (T d) (S.erase b) W) := by
  unfold held
  conv_lhs => rw [← Finset.insert_erase hb]
  rw [SparseCore.bigSep_insert' (Finset.notMem_erase b S)]

/-- The arrays other than the SparseCore call's three. -/
abbrev restS : Finset (DevRef τ sig) := ((ucS.erase (hRef main_v0)).erase (hRef main_v1)).erase (hRef main_v2)

/-- The SparseCore call's three arrays taken out of those held. -/
theorem held_three (d : Dev nD) (W : Valuation τ sig (Elt F)) :
    (held (T d) ucS W : sProp 𝕄) = iprop((kLoc d ↦{fullShare} W (hRef main_v0)) ∗ (tLoc d ↦{fullShare} W (hRef main_v1))
      ∗ (aLoc d ↦{fullShare} W (hRef main_v2)) ∗ held (T d) restS W) := by
  rw [held_take d (b := hRef main_v0) (by decide), held_take d (b := hRef main_v1) (by decide), held_take d (b := hRef main_v2) (by decide)]

/-- The arrays before the SparseCore call, its three taken out. -/
theorem held_V2 (d : Dev nD) :
    (held (T d) ucS (V2 m d) : sProp 𝕄) = iprop((kLoc d ↦{fullShare} kapD m d) ∗ (tLoc d ↦{fullShare} ttD m d)
      ∗ (aLoc d ↦{fullShare} a0D m d) ∗ held (T d) restS (V2 m d)) := by
  rw [held_three, V2_k, V2_t, V2_other m d (show (main_v2 : Ref sig .tc) ≠ main_v0 ∧ (main_v2 : Ref sig .tc) ≠ main_v1 by decide)]
  rfl
/-- The arrays after it, its three put back. -/
theorem held_V3 (d : Dev nD) :
    (held (T d) ucS (V3 m d) : sProp 𝕄) = iprop((kLoc d ↦{fullShare} kapD m d) ∗ (tLoc d ↦{fullShare} ttD m d)
      ∗ (aLoc d ↦{fullShare} gath (kapD m d) (ttD m d)) ∗ held (T d) restS (V2 m d)) := by
  rw [held_three, V3_other m d (show hRef main_v0 ≠ hRef main_v2 by decide), V3_other m d (show hRef main_v1 ≠ hRef main_v2 by decide), V2_k, V2_t, V3_a,
    show (held (T d) restS (V3 m d) : sProp 𝕄) = held (T d) restS (V2 m d) from bigSep_congr fun b hb => by
      rw [V3_other m d (Finset.ne_of_mem_erase hb)]]

/-- The table's reshape touches arrays that are held. -/
theorem hK : (opK (F := F)).bufs ⊆ ucS := show ({hRef main_arg4} ∪ {hRef main_v0} : Finset (DevRef τ sig)) ⊆ ucS by decide
/-- The indices' reshape touches arrays that are held. -/
theorem hTb : (opT (F := F)).bufs ⊆ ucS := show ({hRef main_arg3} ∪ {hRef main_v1} : Finset (DevRef τ sig)) ⊆ ucS by decide
/-- The first argument's reshape touches arrays that are held. -/
theorem hX : (opX (F := F)).bufs ⊆ ucS := show ({hRef main_arg0} ∪ {hRef main_v3} : Finset (DevRef τ sig)) ⊆ ucS by decide
/-- The second argument's reshape touches arrays that are held. -/
theorem hC : (opC (F := F)).bufs ⊆ ucS := show ({hRef main_arg1} ∪ {hRef main_v4} : Finset (DevRef τ sig)) ⊆ ucS by decide
/-- The third argument's reshape touches arrays that are held. -/
theorem hS : (opS (F := F)).bufs ⊆ ucS := show ({hRef main_arg2} ∪ {hRef main_v5} : Finset (DevRef τ sig)) ⊆ ucS by decide
/-- The gathered rows' reshape touches arrays that are held. -/
theorem hA : (opA (F := F)).bufs ⊆ ucS := show ({hRef main_v2} ∪ {hRef main_v6} : Finset (DevRef τ sig)) ⊆ ucS by decide
/-- The result's reshape touches arrays that are held. -/
theorem hR : (opR (F := F)).bufs ⊆ ucS := show ({hRef main_v7} ∪ {hRef main_v8} : Finset (DevRef τ sig)) ⊆ ucS by decide

/-! ## The TensorCore call -/

/-- The TensorCore call's region at this program's arrays. -/
def regM : Pipeline.RegionSeg (pcfgs (F := F)) adm1 (pdats fun c b => V7 m c (hRef b)) none (defs₀ (F := F)) Variants.none (K (F := F)).L (K (F := F)).lev 0 :=
  reg (fun c b => V7 m c (hRef b)) (fun c b => V8 m c (hRef b))
    (fun c => by rw [V8_o, V7_x, V7_c, V7_s, V7_a]; rfl)
    (fun c b hb => V8_other m c hb)

/-- After its one SparseCore call the TensorCore owes nothing. -/
theorem tcSt_owe (d : Dev nD) : ∃ R : sProp 𝕄, (K (F := F)).tcSt EH d 1 = iprop(oweSt (F := F) d ∗ R) := by
  unfold SparseCore.Cfg.tcSt oweSt
  rw [(K (F := F)).Otc_end d (le_refl 1)]
  exact ⟨_, rfl⟩

/-- The TensorCore call: the arrays held at `V7` before it are held at `V8` after it. -/
theorem regionStep [∀ e, Nonempty (Elt F e)] (d : Dev nD) (Φ : PUnit → sProp 𝕄) :
    iprop((iprop(boundary (T d) ∗ held (T d) ucS (V8 m d) ∗ oweSt (F := F) d) -∗ Φ ⟨⟩)
        ∗ boundary (T d) ∗ (held (T d) ucS (V7 m d) ∗ oweSt (F := F) d) ∗ levAts (K (F := F)).L (K (F := F)).lev ∗ ghost (F := F) d)
      ⊢ wp frame (wpE ((K (F := F)).defs (D (F := F))) 𝒱 (T d) none) Set.univ
          (Prog.lift (.customCall (SparseCore.inner (Pipeline.entry (0 : Fin 1))) ())) Φ := by
  refine BIBase.Entails.trans ?_ ((K (F := F)).wp_liftProg (D (F := F)) 𝒱 (T d) Set.univ none
    (.op (.customCall (Pipeline.entry (0 : Fin 1)) ()) .ret) Φ)
  refine BIBase.Entails.trans ?_ (Pipeline.RegionSeg.wp (pcfgs (F := F)) adm1 (pdats fun c b => V7 m c (hRef b)) none phinj1 (EP (F := F)) (defs₀ (F := F)) Variants.none
    (K (F := F)).L (K (F := F)).lev (regM m) d none (fun u hu => nomatch hu) .ret Φ)
  rw [show (regM m).pre d = iprop(held (T d) ucS (V7 m d) ∗ oweSt (F := F) d) from
      congrArg (fun X => iprop(X ∗ oweSt (F := F) d)) (Pipeline.unscopedBufs_held d (V7 m d)),
    show (regM m).post d = iprop(held (T d) ucS (V8 m d) ∗ oweSt (F := F) d) from
      congrArg (fun X => iprop(X ∗ oweSt (F := F) d)) (Pipeline.unscopedBufs_held d (V8 m d))]
  unfold ghost
  iintro ⟨Hk, Hb, Hpre, Hl, Hc, Ht⟩
  isplitl [Hk]
  · iintro ⟨Hb, Hp⟩
    rw [wp_ret]; imodintro
    iapply Hk
    isplitl [Hb] <;> iassumption
  isplitl [Hb]; · iexact Hb
  isplitl [Hpre]; · iexact Hpre
  isplitl [Hl]; · iexact Hl
  isplitl [Hc] <;> iassumption

/-! ## @main -/

/-- What @main leaves the claim: every host array at its last contents. -/
abbrev FIN (d : Dev nD) : sProp 𝕄 := held (T d) ucS (V9 m d)

set_option maxHeartbeats 1000000 in
/-- @main on a device's TensorCore: two reshapes, the SparseCore call, four reshapes, the TensorCore call, the last reshape. -/
theorem hmain [∀ e, Nonempty (Elt F e)] (κ : GSem nD τ sig → ℕ) (d : Dev nD) :
    iprop((K (F := F)).ctx EH (Pm m) κ ∗ (K (F := F)).tcSt EH d 0 ∗ (K (F := F)).tcRes m ρ d ∗ ghost (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  obtain ⟨R, hR1⟩ := tcSt_owe (F := F) d
  unfold SparseCore.Cfg.tcRes SparseCore.Cfg.tcEnd
  rw [unscoped_held]
  simp only [main, wp_bind, wp_pure]
  iintro ⟨#Hctx, Hst, ⟨Hb, Hheld, Hts, -⟩, Hg⟩
  iapply (wp_hlo_within 𝒱 (SparseCore.T d) none Set.univ (op := opK) (S := ucS) hK (V := V0 m d)) $$ [Hb Hheld]
  · isplitl [Hb] <;> iassumption
  iintro ⟨Hb, Hheld⟩
  rw [wp_ret]; imodintro
  iapply (wp_hlo_within 𝒱 (SparseCore.T d) none Set.univ (op := opT) (S := ucS) hTb (V := V1 m d)) $$ [Hb Hheld]
  · isplitl [Hb]; · iexact Hb
    iexact Hheld
  iintro ⟨Hb, Hheld⟩
  rw [wp_ret]; imodintro
  ihave Hh := (Entails.of_eq (show (held (T d) ucS ((opT (F := F)).result (V1 m d)) : sProp 𝕄) = _ from held_V2 (F := F) m d)) $$ Hheld
  icases Hh with ⟨Hk, Ht, Ha, Hrest⟩
  ihave H := (callSplit (kapD m) (ttD m) (a0D m) d) $$ [Hk Ht Ha]
  · isplitl [Hk]; · iexact Hk
    isplitl [Ht]; · iexact Ht
    iexact Ha
  icases H with ⟨Hin, Hkr⟩
  iapply ((K (F := F)).wp_run (D (F := F)) 𝒱 (EH := EH) (P := Pm m) κ d 0) $$ [Hst Hin Hkr Hrest Hb Hts Hg]
  isplitr; · iexact Hctx
  isplitl [Hst]; · iexact Hst
  isplitl [Hin]; · iexact Hin
  iintro ⟨Hst, Hdn⟩
  ihave H := (callJoin (kapD m) (ttD m) (a0D m) d) $$ [Hdn Hkr]
  · isplitl [Hdn] <;> iassumption
  icases H with ⟨Hk, Ht, Ha⟩
  ihave Hheld := (Entails.of_eq (held_V3 (F := F) m d).symm) $$ [Hk Ht Ha Hrest]
  · isplitl [Hk]; · iexact Hk
    isplitl [Ht]; · iexact Ht
    isplitl [Ha] <;> iassumption
  iapply (wp_hlo_within 𝒱 (SparseCore.T d) none Set.univ (op := opX) (S := ucS) hX (V := V3 m d)) $$ [Hb Hheld]
  · isplitl [Hb] <;> iassumption
  iintro ⟨Hb, Hheld⟩
  rw [wp_ret]; imodintro
  iapply (wp_hlo_within 𝒱 (SparseCore.T d) none Set.univ (op := opC) (S := ucS) hC (V := V4 m d)) $$ [Hb Hheld]
  · isplitl [Hb]; · iexact Hb
    iexact Hheld
  iintro ⟨Hb, Hheld⟩
  rw [wp_ret]; imodintro
  iapply (wp_hlo_within 𝒱 (SparseCore.T d) none Set.univ (op := opS) (S := ucS) hS (V := V5 m d)) $$ [Hb Hheld]
  · isplitl [Hb]; · iexact Hb
    iexact Hheld
  iintro ⟨Hb, Hheld⟩
  rw [wp_ret]; imodintro
  iapply (wp_hlo_within 𝒱 (SparseCore.T d) none Set.univ (op := opA) (S := ucS) hA (V := V6 m d)) $$ [Hb Hheld]
  · isplitl [Hb]; · iexact Hb
    iexact Hheld
  iintro ⟨Hb, Hheld⟩
  rw [wp_ret]; imodintro
  ihave H := (Entails.of_eq (show (K (F := F)).tcSt EH d ((0 : Fin 1).val + 1) = iprop(oweSt (F := F) d ∗ R) from hR1)) $$ Hst
  icases H with ⟨HO, HR⟩
  iapply (regionStep m d) $$ [Hb Hheld HO HR Hg Hts]
  isplitr [Hb Hheld HO Hg]; swap
  · isplitl [Hb]; · iexact Hb
    isplitl [Hheld HO]
    · isplitl [Hheld]; · iexact Hheld
      iexact HO
    isplitr
    · unfold SparseCore.Cfg.ctx; icases Hctx with ⟨#Hl, -⟩; iexact Hl
    iexact Hg
  iintro ⟨Hb, Hheld, HO⟩
  iapply (wp_hlo_within 𝒱 (SparseCore.T d) none Set.univ (op := opR) (S := ucS) hR (V := V8 m d)) $$ [Hb Hheld]
  · isplitl [Hb] <;> iassumption
  iintro ⟨Hb, Hheld⟩
  rw [wp_ret]; imodintro
  imodintro
  isplitl [HO HR]
  · iapply (Entails.of_eq hR1.symm); isplitl [HO] <;> iassumption
  isplitl [Hheld]; · iexact Hheld
  isplitl [Hb] <;> iassumption

/-- What the claim reads at the end: the arguments as they were, the result at its value. -/
def fq (d : Dev nD) (s' : Phys nD τ sig (Elt F)) : Prop :=
  (s'.mem.mem (hLoc d main_arg0) = m (hLoc d main_arg0) ∧ s'.mem.mem (hLoc d main_arg1) = m (hLoc d main_arg1)
    ∧ s'.mem.mem (hLoc d main_arg2) = m (hLoc d main_arg2) ∧ s'.mem.mem (hLoc d main_arg3) = m (hLoc d main_arg3)
    ∧ s'.mem.mem (hLoc d main_arg4) = m (hLoc d main_arg4)) ∧ s'.mem.mem (hLoc d main_v8) = resD m d

/-- Memory agrees with an array that is held. -/
theorem held_agree (d : Dev nD) {b : DevRef τ sig} (hb : b ∈ ucS) (W : Valuation τ sig (Elt F)) (s' : Phys nD τ sig (Elt F)) :
    iprop(held (T d) ucS W ∗ SI s') ⊢ (⌜s'.mem.mem (d, b) = W b⌝ : sProp 𝕄) := by
  rw [held_take d hb]
  iintro ⟨⟨Hx, -⟩, HSI⟩
  ihave H := (SI_pointsTo_agree (st := s') (ℓ := (d, b)) (I := Finset.univ) (q := fullShare) (f := W b)) $$ [HSI Hx]
  · isplitl [HSI] <;> iassumption
  icases H with %hx
  ipureintro; exact funext fun i => hx i (Finset.mem_univ i)

/-- What is owned at the end tells the memory's contents. -/
theorem hfin (d : Dev nD) (s' : Phys nD τ sig (Elt F)) : iprop(FIN m d ∗ SI s') ⊢ (⌜fq m d s'⌝ : sProp 𝕄) := by
  have all : iprop(FIN m d ∗ SI s') ⊢ (⌜∀ b : {b : DevRef τ sig // b ∈ ucS}, s'.mem.mem (d, b.1) = V9 m d b.1⌝ : sProp 𝕄) :=
    (forall_intro fun b : {b : DevRef τ sig // b ∈ ucS} => held_agree d b.2 (V9 m d) s').trans pure_forall.2
  refine all.trans (Laws.pure_mono fun h => ?_)
  have hr (r : Ref sig .tc) (hb : hRef r ∈ ucS) : s'.mem.mem (hLoc d r) = V9 m d (hRef r) := h ⟨hRef r, hb⟩
  exact ⟨⟨(hr main_arg0 (by decide)).trans (V9_arg m d (by decide)), (hr main_arg1 (by decide)).trans (V9_arg m d (by decide)),
    (hr main_arg2 (by decide)).trans (V9_arg m d (by decide)), (hr main_arg3 (by decide)).trans (V9_arg m d (by decide)),
    (hr main_arg4 (by decide)).trans (V9_arg m d (by decide))⟩, (hr main_v8 (by decide)).trans (V9_r m d)⟩

/-! ## The program's run -/

/-- How the program ends: on every device as `fq` says, every counter at zero. -/
def QC : PUnit × MemSt nD τ sig (Elt F) → Prop := fun r =>
  (∀ d : Dev nD, (r.2.mem (hLoc d main_arg0) = m (hLoc d main_arg0) ∧ r.2.mem (hLoc d main_arg1) = m (hLoc d main_arg1)
    ∧ r.2.mem (hLoc d main_arg2) = m (hLoc d main_arg2) ∧ r.2.mem (hLoc d main_arg3) = m (hLoc d main_arg3)
    ∧ r.2.mem (hLoc d main_arg4) = m (hLoc d main_arg4)) ∧ r.2.mem (hLoc d main_v8) = resD m d) ∧ r.2.sem = fun _ => 0

/-- Every index in range, the program ends with its arguments as they were, its result at its value and every counter at zero. -/
theorem run_main [∀ e, Nonempty (Elt F e)] (hx : ∀ d i, (m (hLoc d main_arg3) i : BitVec 32).toNat < 100) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := Pm m) (A := ∅) facts v₀
    (fun q hq => match q with | 0 => nomatch hq)
    (fun q _ => match q with | 0 => tileObl (kapD m) (ttD m) (a0D m) (fun d _ => hx d _) facts)
    (fun q _ => match q with | 0 => SparseCore.Cfg.VecSplit.of_plain (vecSplit (kapD m) (ttD m) (a0D m)))
    m ρ main (fun d => ghost (F := F) d) (FIN m) (u₀ (F := F)) (sep_elim_left.trans (hu₀ m)) (hmain m ρ) (fq m) (hfin m) (QC m) (fun _ h hz => ⟨h, hz⟩)

end Launch

end Cert.Proof.KI

end

end
-- ==== Proof.Take.lean ====
/- The reference's take, for indices in range: the rows the words name. -/
module

public import proofs.«01_k».proof.Defs
public import proofs.«01_k».proof.Proof.Tile
public import proofs.«01_k».proof.Proof.Gen.ReferenceIdeal
public import proofs.«01_k».proof.Proof.Gen.Pre_in_range
public import Idealize.ShloMosaic.Lib.ReduceAll
public import Idealize.ShloMosaic.Lib.StableHlo.Predicate

@[expose] public section

noncomputable section

namespace Cert.Proof.Take

open Cert.ReferenceIdeal Cert.ReferenceIdeal.Gen
open Idealize.ShloMosaic

/-- A word in range is its own value, as a signed word too. -/
theorem toInt_of_lt {w : BitVec 32} (h : w.toNat < 100) : w.toInt = (w.toNat : ℤ) := by
  rw [BitVec.toInt_eq_toNat_cond, if_pos (by omega)]

/-- Every index in range: what the precondition says of the words. -/
theorem of_pre {F : FTy → Type} [FloatOps F] (x c s : FVec F S2097152x3 .f32) (t : IVec S2097152 32) (k : FVec F S100x1 .f32) (h : Cert.Pre_in_range.fn x c s t k = fun _ => 1#1) (i : S2097152.Idx) :
    (t i).toNat < 100 := by
  have e := Host.reduce_andi_all _ _ _ _ (fun a => a.elim0) (congrFun h fun a => a.elim0) i
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have key : ∀ v : BitVec 32, IntOp.andi (IntOp.cmpi .sge v 0#32) (IntOp.cmpi .slt v 100#32) = 1#1 → v.toNat < 100 := by
    intro v e
    simp only [IntOp.cmpi, andi_ofBool, ofBool_eq_one, Bool.and_eq_true, BitVec.sle_eq_decide, BitVec.slt_eq_decide,
      decide_eq_true_eq, BitVec.toInt_eq_toNat_cond, BitVec.toNat_ofNat, Nat.reducePow, Nat.reduceMod] at e
    omega
  simp only [andi, cmpi, broadcastInDim, constantI] at e
  exact key _ e

/-- The wrap of a negative index leaves the indices in range as they are. -/
theorem wrap_eq (t : IVec S2097152 32) (ht : ∀ i, (t i).toNat < 100) :
    select (cmpi .slt t (broadcastInDim S2097152 ![] bcast_S_S2097152 (constantI S_ 32 0#32)))
      (addi t (broadcastInDim S2097152 ![] bcast_S_S2097152 (constantI S_ 32 100#32))) t = t := by
  funext i
  have h0 : IntOp.cmpi .slt (t i) 0#32 = 0#1 := by
    have hi := toInt_of_lt (ht i)
    have hz : (0#32 : BitVec 32).toInt = 0 := by decide
    simp only [IntOp.cmpi, BitVec.slt_eq_decide, hi, hz]
    rw [decide_eq_false (by omega)]; rfl
  simp only [select, cmpi, broadcastInDim, constantI, h0]
  rfl

/-- The mask of the indices in range is one at each of them. -/
theorem mask_eq (t : IVec S2097152 32) (ht : ∀ i, (t i).toNat < 100) (j : S2097152.Idx) :
    Host.reduce IntOp.andi (andi (cmpi .sge (broadcastInDim S2097152x1 ![0] bcast_S2097152_S2097152x1_0 t) (broadcastInDim S2097152x1 ![] bcast_S_S2097152x1 (constantI S_ 32 0#32)))
      (cmpi .sle (broadcastInDim S2097152x1 ![0] bcast_S2097152_S2097152x1_0 t)
        (broadcastInDim S2097152x1 ![0, 1] bcast_S1x1_S2097152x1_0_1 (broadcastInDim S1x1 ![1] bcast_S1_S1x1_1 (constantI S1 32 99#32)))))
      (constantI S_ 1 1#1) reducesTo_S2097152x1_S2097152_d1 h_S_ j = 1#1 := by
  refine Host.reduce_andi_one _ _ _ _ _ rfl fun i => ?_
  simp only [andi, cmpi, broadcastInDim, constantI]
  generalize hw : t _ = w
  have hb : w.toNat < 100 := hw ▸ ht _
  have hi := toInt_of_lt hb
  have h1 : IntOp.cmpi .sge w 0#32 = 1#1 := by
    simp only [IntOp.cmpi, BitVec.sle_eq_decide, hi]; simp
  have h2 : IntOp.cmpi .sle w 99#32 = 1#1 := by
    have : (99#32 : BitVec 32).toInt = 99 := by decide
    simp only [IntOp.cmpi, BitVec.sle_eq_decide, hi, this]
    rw [decide_eq_true (by omega)]; rfl
  rw [h1, h2]; rfl

/-- A gather of single elements along the only axis reads the element its start index names, kept within the array. -/
theorem gather_one {α : Type} {N n : ℕ} (g : GatherDims ⟨1, ![N]⟩ ⟨2, ![n, 1]⟩ ⟨1, ![n]⟩) (hcoll : g.collapsedSliceDims = [0]) (hob : g.operandBatchingDims = [])
    (hsim : g.startIndexMap = [0]) (hivd : g.indexVectorDim = 1) (x : (⟨1, ![N]⟩ : Shape).Idx → α) (idx : IVec ⟨2, ![n, 1]⟩ 32) (j : (⟨1, ![n]⟩ : Shape).Idx) (p : Fin n)
    (hj : j = Shape.Idx.ofFin p) (k : (⟨1, ![N]⟩ : Shape).Idx) (w : BitVec 32) (hw : idx (StableHlo.Predicate.ixP p) = w) (hk : (k 0).val = w.toInt.toNat) :
    Host.gather g x idx j = x k := by
  have hN : (k 0).val < N := (k 0).isLt
  subst hj
  rw [StableHlo.Predicate.gather_take g hcoll hob hsim hivd x idx p (by omega)]
  refine congrArg x (funext fun a => Fin.ext ?_)
  have ha : a = 0 := Subsingleton.elim _ _
  subst ha
  show min (idx (StableHlo.Predicate.ixP p)).toInt.toNat (N - 1) = (k 0).val
  rw [hw]
  omega

/-- The gather reads the element the word names. -/
theorem gather_eq {α : Type} (t : IVec S2097152 32) (ht : ∀ i, (t i).toNat < 100) (x : S100.Idx → α) (j : S2097152.Idx) :
    Host.gather gather_S100_S2097152x1_S2097152_n_0_n_n_0_1_1 x (broadcastInDim S2097152x1 ![0] bcast_S2097152_S2097152x1_0 t) j = x (KI.kIx (t j)) := by
  have hq : broadcastInDim S2097152x1 ![0] bcast_S2097152_S2097152x1_0 t (StableHlo.Predicate.ixP (j 0)) = t j := by
    simp only [broadcastInDim]
    refine congrArg t (funext fun a => ?_)
    have ha : a = 0 := Subsingleton.elim _ _
    subst ha
    exact Fin.ext rfl
  have hk : (KI.kIx (t j) 0).val = (t j).toInt.toNat := by
    show (t j).toNat % 100 = _
    rw [toInt_of_lt (ht j)]
    have := ht j
    omega
  have hj : j = Shape.Idx.ofFin (n := 2097152) (j 0) := by
    funext a; have ha : a = 0 := Subsingleton.elim _ _; subst ha; rfl
  have h1 : gather_S100_S2097152x1_S2097152_n_0_n_n_0_1_1.collapsedSliceDims = [0] := rfl
  have h2 : gather_S100_S2097152x1_S2097152_n_0_n_n_0_1_1.operandBatchingDims = [] := rfl
  have h3 : gather_S100_S2097152x1_S2097152_n_0_n_n_0_1_1.startIndexMap = [0] := rfl
  have h4 : gather_S100_S2097152x1_S2097152_n_0_n_n_0_1_1.indexVectorDim = 1 := rfl
  exact gather_one _ h1 h2 h3 h4 x _ j (j 0) hj (KI.kIx (t j)) (t j) hq hk

/-- `jnp.take` along the table, for indices in range. -/
theorem take_eq {F : FTy → Type} [FloatOps F] (t : IVec S2097152 32) (ht : ∀ i, (t i).toNat < 100) (x : S100.Idx → Elt F .f32) :
    select (Host.reduce IntOp.andi (andi (cmpi .sge (broadcastInDim S2097152x1 ![0] bcast_S2097152_S2097152x1_0 (select (cmpi .slt t (broadcastInDim S2097152 ![] bcast_S_S2097152 (constantI S_ 32 0#32))) (addi t (broadcastInDim S2097152 ![] bcast_S_S2097152 (constantI S_ 32 100#32))) t)) (broadcastInDim S2097152x1 ![] bcast_S_S2097152x1 (constantI S_ 32 0#32)))
        (cmpi .sle (broadcastInDim S2097152x1 ![0] bcast_S2097152_S2097152x1_0 (select (cmpi .slt t (broadcastInDim S2097152 ![] bcast_S_S2097152 (constantI S_ 32 0#32))) (addi t (broadcastInDim S2097152 ![] bcast_S_S2097152 (constantI S_ 32 100#32))) t))
          (broadcastInDim S2097152x1 ![0, 1] bcast_S1x1_S2097152x1_0_1 (broadcastInDim S1x1 ![1] bcast_S1_S1x1_1 (constantI S1 32 99#32)))))
        (constantI S_ 1 1#1) reducesTo_S2097152x1_S2097152_d1 h_S_)
      (Host.gather gather_S100_S2097152x1_S2097152_n_0_n_n_0_1_1 x (broadcastInDim S2097152x1 ![0] bcast_S2097152_S2097152x1_0 (select (cmpi .slt t (broadcastInDim S2097152 ![] bcast_S_S2097152 (constantI S_ 32 0#32))) (addi t (broadcastInDim S2097152 ![] bcast_S_S2097152 (constantI S_ 32 100#32))) t)))
      (broadcastInDim S2097152 ![] bcast_S_S2097152 (constant S_ .f32 0x7FC00000#32))
    = fun j => x (KI.kIx (t j)) := by
  rw [wrap_eq t ht]
  funext j
  rw [select, mask_eq t ht j, gather_eq t ht x j]
  rfl

end Cert.Proof.Take

end

end
-- ==== Proof.Math.lean ====
/- The map's scalar mathematics over the extended reals: one element of the result from its inputs, and the two spellings of the same number that the
   kernel and the reference use (the scaled argument, the division by two pi). -/
module

public import proofs.«01_k».proof.Defs
public import Idealize.ShloMosaic.Lib.IdealHost

@[expose] public section

noncomputable section

namespace Cert.Proof.Math

open Idealize.ShloMosaic

/-- The number a binary32 pattern names. -/
abbrev lit (b : BitVec 32) : EReal := Ideal.ofBits .f32 b

/-- A polynomial from its leading coefficient down, by Horner's scheme. -/
def horner (z c : EReal) : List EReal → EReal
  | [] => c
  | k :: ks => horner z (c * z + k) ks

/-- The cosine's polynomial, in the square of the argument. -/
def cosP (x : EReal) : EReal :=
  horner (x * x) (lit 0x29573F9F#32) [lit 0xAD49CBA5#32, lit 0x310F76C7#32, lit 0xB493F27E#32, lit 0x37D00D01#32, lit 0xBAB60B61#32, lit 0x3D2AAAAB#32, lit 0xBF000000#32, lit 0x3F800000#32]

/-- The sine's polynomial: the argument times a polynomial in its square. -/
def sinP (x : EReal) : EReal :=
  x * horner (x * x) (lit 0x274A963C#32) [lit 0xAB573F9F#32, lit 0x2F309231#32, lit 0xB2D7322B#32, lit 0x3638EF1D#32, lit 0xB9500D01#32, lit 0x3C088889#32, lit 0xBE2AAAAB#32, lit 0x3F800000#32]

/-- The size of an extended real. -/
def size (x : EReal) : EReal := max x (-x)

/-- The smaller of two sizes over the larger, the larger kept away from zero. -/
def ratio (c s : EReal) : EReal := Ideal.div (min (size c) (size s)) (max (max (size c) (size s)) (lit 0x02081CEA#32))

/-- The arctangent's polynomial: the ratio times a polynomial in its square. -/
def atanP (q : EReal) : EReal :=
  q * horner (q * q) (lit 0x3CAAAE5F#32) [lit 0xBDAE5A36#32, lit 0x3E3876E2#32, lit 0xBEA91D04#32, lit 0x3F7FF738#32]

/-- The angle of the point in the first octant, taken to the first quadrant. -/
def quarter (c s : EReal) : EReal :=
  Scalar.select (FloatOps.cmpf (F := Ideal) (φ := .f32) .ogt (size s) (size c)) (lit 0x3FC90FDB#32 - atanP (ratio c s)) (atanP (ratio c s))

/-- The angle taken to the upper half plane. -/
def half (c s : EReal) : EReal :=
  Scalar.select (FloatOps.cmpf (F := Ideal) (φ := .f32) .olt c (lit 0x00000000#32)) (lit 0x40490FDB#32 - quarter c s) (quarter c s)

/-- The angle of the point `(c, s)`. -/
def angle (c s : EReal) : EReal :=
  Scalar.select (FloatOps.cmpf (F := Ideal) (φ := .f32) .olt s (lit 0x00000000#32)) (-half c s) (half c s)

/-- The scaled argument as the reference spells it. -/
def arg (x : EReal) : EReal := lit 0x40C90FDB#32 * (x - lit 0x3F000000#32)

/-- The cosine's result for one element. -/
def cosG (x gc a : EReal) : EReal := a * cosP (arg x) + gc

/-- The sine's result for one element. -/
def sinG (x gs a : EReal) : EReal := a * sinP (arg x) + gs

/-- The next value for one element. -/
def next (x gc gs a : EReal) : EReal := Ideal.div (angle (cosG x gc a) (sinG x gs a)) (lit 0x40C90FDB#32) + lit 0x3F000000#32

/-- The binary32 number nearest two pi. -/
theorem lit_two_pi : lit 0x40C90FDB#32 = ((13176795 / 2097152 : ℝ) : EReal) := by
  simp [lit, Ideal.ofBits, Ideal.ieee, -EReal.coe_mul]; norm_num

/-- Half of it. -/
theorem lit_pi : lit 0x40490FDB#32 = ((13176795 / 4194304 : ℝ) : EReal) := by
  simp [lit, Ideal.ofBits, Ideal.ieee, -EReal.coe_mul]; norm_num

/-- One half. -/
theorem lit_half : lit 0x3F000000#32 = ((1 / 2 : ℝ) : EReal) := by
  simp [lit, Ideal.ofBits, Ideal.ieee, -EReal.coe_mul]; norm_num

/-- Zero. -/
theorem lit_zero : lit 0x00000000#32 = 0 := by simp [lit, Ideal.ofBits, Ideal.ieee]

/-- Multiplying out the scaled argument: at an infinity both sides are that infinity. -/
theorem arg_eq (x : EReal) : lit 0x40C90FDB#32 * x - lit 0x40490FDB#32 = arg x := by
  unfold arg
  rw [lit_two_pi, lit_pi, lit_half]
  induction x using EReal.rec with
  | bot =>
    rw [EReal.coe_mul_bot_of_pos (by norm_num), EReal.bot_sub, EReal.bot_sub, EReal.coe_mul_bot_of_pos (by norm_num)]
  | coe r =>
    rw [← EReal.coe_mul, ← EReal.coe_sub, ← EReal.coe_sub, ← EReal.coe_mul]
    congr 1; ring
  | top =>
    rw [EReal.coe_mul_top_of_pos (by norm_num), EReal.top_sub_coe, EReal.top_sub_coe, EReal.coe_mul_top_of_pos (by norm_num)]

/-- Dividing by two pi is multiplying by its reciprocal. -/
theorem div_two_pi (x : EReal) : Ideal.div x (lit 0x40C90FDB#32) = x * ((2097152 / 13176795 : ℝ) : EReal) := by
  rw [lit_two_pi, Ideal.div_coe (by norm_num)]
  congr 2; norm_num

/-- A subtraction from zero is the negation. -/
theorem zero_sub' (x : EReal) : lit 0x00000000#32 - x = -x := by rw [lit_zero, zero_sub]

end Cert.Proof.Math
-- ==== Proof.Value.lean ====
/- What the kernel's result array holds over the extended reals: at every element the map's scalar mathematics of that element's inputs. -/
module

public import proofs.«01_k».proof.Proof.Launch
public import proofs.«01_k».proof.Proof.Math
public import Idealize.ShloMosaic.Lib.Pointwise
public import Idealize.ShloMosaic.Lib.Pipeline.Value

@[expose] public section

set_option maxRecDepth 16384

noncomputable section

namespace Cert.Proof.KI

open Cert.KernelIdeal Cert.KernelIdeal.Gen
open Idealize.ShloMosaic Cert.Proof.Math
open Idealize.ShloMosaic.Pipeline

/-- The words that mark column `j` of group `k`: one where `j` is one of the three columns the group covers. -/
theorem mark_iff (k j : ℕ) (hk : k < 128) (hj : j < 384) :
    IntOp.andi (IntOp.cmpi .sge (BitVec.ofNat 32 j) (3#32 * BitVec.ofNat 32 k))
      (IntOp.cmpi .slt (BitVec.ofNat 32 j) (3#32 * BitVec.ofNat 32 k + 3#32)) = 1#1 ↔ j / 3 = k := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have toInt (n : ℕ) (h : n < 400) : (BitVec.ofNat 32 n).toInt = (n : ℤ) := by
    rw [BitVec.toInt_eq_toNat_cond, BitVec.toNat_ofNat, Nat.mod_eq_of_lt (by omega), if_pos (by omega)]
  have e3 : 3#32 * BitVec.ofNat 32 k = BitVec.ofNat 32 (3 * k) := by
    apply BitVec.eq_of_toNat_eq; simp [BitVec.toNat_mul, Nat.mod_eq_of_lt (show k < 4294967296 by omega)]
  have e4 : BitVec.ofNat 32 (3 * k) + 3#32 = BitVec.ofNat 32 (3 * k + 3) := by
    apply BitVec.eq_of_toNat_eq; simp [BitVec.toNat_add]
  simp only [e3, e4, IntOp.cmpi, andi_ofBool, ofBool_eq_one, Bool.and_eq_true, BitVec.sle_eq_decide, BitVec.slt_eq_decide,
    decide_eq_true_eq, toInt _ (show j < 400 by omega), toInt _ (show 3 * k < 400 by omega), toInt _ (show 3 * k + 3 < 400 by omega)]
  omega

/-- The product with the marks spreads the amplitudes: column `j` gets the amplitude of its group of three. -/
theorem spread (a : S512x128.Idx → EReal) (r : Fin 512) (j : Fin 384) :
    k1_pay2 (F := Ideal) a (ix2 r j) = a (ix2 r ⟨j.val / 3, by have := j.isLt; omega⟩) := by
  have hz : lit 0x00000000#32 = 0 := lit_zero
  have h1 : lit 0x3F800000#32 = 1 := Ideal.ofBits_one_f32
  unfold k1_pay2
  simp only [shapeCast_self]
  show Ideal.matmul _ _ _ _ _ = _
  have hj : j.val < 384 := j.isLt
  rw [Ideal.matmul_apply₁_of (K := 128) _ rfl rfl _ _ _ _ (fun k => ix2 r k) (fun k => ix2 k j) (fun k => by pointwise) (fun k => by pointwise)]
  refine (congrArg (lit 0x00000000#32 + ·) (Finset.sum_eq_single (⟨j.val / 3, by omega⟩ : Fin 128) (fun k _ hk => ?_) (fun h => absurd (Finset.mem_univ _) h))).trans ?_
  · refine (congrArg (_ * ·) ?_).trans (mul_zero _)
    show Scalar.select (IntOp.andi (IntOp.cmpi .sge (BitVec.ofNat 32 (0 * 384 + j.val)) (3#32 * BitVec.ofNat 32 (0 * 128 + k.val))) (IntOp.cmpi .slt (BitVec.ofNat 32 (0 * 384 + j.val)) (3#32 * BitVec.ofNat 32 (0 * 128 + k.val) + 3#32))) _ (lit 0x00000000#32) = 0
    simp only [Nat.zero_mul, Nat.zero_add]
    unfold Scalar.select
    exact (if_neg fun e => hk (Fin.ext ((mark_iff k.val j.val k.isLt hj).mp e).symm)).trans hz
  · rw [hz, zero_add]
    refine (congrArg (_ * ·) ?_).trans (mul_one _)
    show Scalar.select (IntOp.andi (IntOp.cmpi .sge (BitVec.ofNat 32 (0 * 384 + j.val)) (3#32 * BitVec.ofNat 32 (0 * 128 + j.val / 3))) (IntOp.cmpi .slt (BitVec.ofNat 32 (0 * 384 + j.val)) (3#32 * BitVec.ofNat 32 (0 * 128 + j.val / 3) + 3#32))) (lit 0x3F800000#32) _ = 1
    simp only [Nat.zero_mul, Nat.zero_add]
    unfold Scalar.select
    exact (if_pos ((mark_iff (j.val / 3) j.val (by omega) hj).mpr rfl)).trans h1

/-- The cosine's block at an element. -/
theorem cosB_at (x gc : S512x384.Idx → EReal) (a : S512x128.Idx → EReal) (p : S512x384.Idx) :
    cosB (F := Ideal) x gc a p = cosG (x p) (gc p) (k1_pay2 (F := Ideal) a p) := by
  unfold cosG
  rw [← arg_eq]
  unfold cosB k1_pay6 k1_pay4 k1_pay3
  simp only [shapeCast_self]
  rfl

/-- The sine's block at an element. -/
theorem sinB_at (x gs : S512x384.Idx → EReal) (a : S512x128.Idx → EReal) (p : S512x384.Idx) :
    sinB (F := Ideal) x gs a p = sinG (x p) (gs p) (k1_pay2 (F := Ideal) a p) := by
  unfold sinG
  rw [← arg_eq]
  unfold sinB k1_pay7 k1_pay5 k1_pay4 k1_pay3
  simp only [shapeCast_self]
  rfl

/-- The angle's block at an element, given the sizes' blocks. -/
theorem angle_at (c s ac sc : S512x384.Idx → EReal) (p : S512x384.Idx) (hc : ac p = size (c p)) (hs : sc p = size (s p)) :
    k1_pay10 (F := Ideal) c s ac sc p = angle (c p) (s p) := by
  unfold angle
  rw [← zero_sub']
  unfold half quarter ratio
  rw [← hc, ← hs]
  rfl

/-- The next value's block at an element of an angle's block. -/
theorem scale_at (th : S512x384.Idx → EReal) (v : EReal) (p : S512x384.Idx) :
    k1_pay1 (F := Ideal) th v (ix3 0 (p 0) (p 1)) = th p * v + lit 0x3F000000#32 := by
  unfold k1_pay1
  refine (shapeCast_apply _ _ _ p ?_).trans rfl
  rw [Shape.rowMajor_val_two, Shape.rowMajor_val_three]
  show (p 0).val * 384 + (p 1).val = (0 * 512 + (p 0).val) * 384 + (p 1).val
  omega

/-- The named scale is the reciprocal of two pi. -/
theorem scale_eq : Named.named (F := Ideal) (φ := .f32) κ "inv_two_pi" 0x3E22F983#32 = ((2097152 / 13176795 : ℝ) : EReal) := by
  have hk : κ "inv_two_pi" = some ((2097152 / 13176795 : ℝ) : EReal) := by unfold κ; rfl
  exact IdealRules.named_const.ideal_named_scalar (φ := .f32) κ "inv_two_pi" 0x3E22F983#32 _ hk

/-- The next value's block at an element. -/
theorem nextB_at (x gc gs : S512x384.Idx → EReal) (a : S512x128.Idx → EReal) (p : S512x384.Idx) :
    nextB (F := Ideal) x gc gs a (ix3 0 (p 0) (p 1)) = next (x p) (gc p) (gs p) (k1_pay2 (F := Ideal) a p) := by
  unfold next nextB
  rw [div_two_pi, ← cosB_at, ← sinB_at, scale_eq, scale_at, angle_at _ _ _ _ p rfl rfl]

/-- The kernel's result at an element: which of the three results, of the inputs of that row and column. -/
def elt (s : Fin 3) (x gc gs a : EReal) : EReal :=
  if s.val = 0 then cosG x gc a else if s.val = 1 then sinG x gs a else next x gc gs a

/-- The block the body leaves, at an element. -/
theorem blkOut_at (x gc gs : S512x384.Idx → EReal) (a : S512x128.Idx → EReal) (s : Fin 3) (r : Fin 512) (j : Fin 384) :
    blkOut (F := Ideal) x gc gs a (ix3 s r j)
      = elt s (x (ix2 r j)) (gc (ix2 r j)) (gs (ix2 r j)) (a (ix2 r ⟨j.val / 3, by have := j.isLt; omega⟩)) := by
  unfold elt
  rw [← spread a r j, ← cosB_at x gc a (ix2 r j), ← sinB_at x gs a (ix2 r j), ← nextB_at x gc gs a (ix2 r j)]
  rfl

/-- The TensorCore call's array at an element: the rows of a block are the rows of the array. -/
theorem tcArr_at (X C S : S16384x384.Idx → EReal) (A : S16384x128.Idx → EReal) (s : Fin 3) (r : Fin 16384) (j : Fin 384) :
    tcArr (F := Ideal) X C S A (ix3 s r j)
      = elt s (X (ix2 r j)) (C (ix2 r j)) (S (ix2 r j)) (A (ix2 r ⟨j.val / 3, by have := j.isLt; omega⟩)) := by
  have hr : r.val < 16384 := r.isLt
  refine (blkOut_at _ _ _ _ s ⟨r.val % 512, Nat.mod_lt _ (by decide)⟩ j).trans ?_
  have e : (⟨512 * (r.val / 512) + r.val % 512, by omega⟩ : Fin 16384) = r := Fin.ext (Nat.div_add_mod _ _)
  have h3 (X : S16384x384.Idx → EReal) : rows384 (F := Ideal) X ⟨r.val / 512, by omega⟩ (ix2 ⟨r.val % 512, Nat.mod_lt _ (by decide)⟩ j) = X (ix2 r j) :=
    congrArg (fun q => X (ix2 q j)) e
  have h1 (k : Fin 128) : rows128 (F := Ideal) A ⟨r.val / 512, by omega⟩ (ix2 ⟨r.val % 512, Nat.mod_lt _ (by decide)⟩ k) = A (ix2 r k) :=
    congrArg (fun q => A (ix2 q k)) e
  exact congr (congr (congr (congrArg (elt s) (h3 X)) (h3 C)) (h3 S)) (h1 _)

variable (m : (ℓ : Loc nD τ sig) → Buf (Elt Ideal) ℓ)

/-- An input's element, through the host's reshape to rows of 384. -/
theorem fold_at (x : S2097152x3.Idx → EReal) (n : Fin 2097152) (k : Fin 3) (h : S2097152x3.ShapeCasts S16384x384) :
    shapeCast S16384x384 x h (ix2 ⟨(3 * n.val + k.val) / 384, by omega⟩ ⟨(3 * n.val + k.val) % 384, Nat.mod_lt _ (by decide)⟩) = x (ix2 n k) := by
  refine shapeCast_apply x h _ _ ?_
  rw [Shape.rowMajor_val_two, Shape.rowMajor_val_two]
  show n.val * 3 + k.val = (3 * n.val + k.val) / 384 * 384 + (3 * n.val + k.val) % 384
  omega

/-- An amplitude, through the host's reshape to rows of 128: the column's group of three is the amplitude's place in the row. -/
theorem fold_amp (a : S1x2097152.Idx → EReal) (n : Fin 2097152) (k : Fin 3) (h : S1x2097152.ShapeCasts S16384x128) :
    shapeCast S16384x128 a h (ix2 ⟨(3 * n.val + k.val) / 384, by omega⟩ ⟨(3 * n.val + k.val) % 384 / 3, by omega⟩) = a (ix2 0 n) := by
  refine shapeCast_apply a h _ _ ?_
  rw [Shape.rowMajor_val_two, Shape.rowMajor_val_two]
  have := k.isLt
  show 0 * 2097152 + n.val = (3 * n.val + k.val) / 384 * 128 + (3 * n.val + k.val) % 384 / 3
  omega

/-- A word, through the host's reshape to one row. -/
theorem word_at (t : S2097152.Idx → BitVec 32) (n : Fin 2097152) (h : S2097152.ShapeCasts S1x2097152) :
    shapeCast S1x2097152 t h (ix2 0 n) = t (ix1 n) := by
  refine shapeCast_apply t h _ _ ?_
  rw [Shape.rowMajor_val_two, Shape.rowMajor_val_one]
  show n.val = 0 * 2097152 + n.val
  omega

/-- The kernel's result at an element, of the arguments it was launched with. -/
theorem resD_at (d : Dev nD) (s : Fin 3) (n : Fin 2097152) (k : Fin 3) :
    resD (F := Ideal) m d (ix3 s n k)
      = elt s (m (hLoc d main_arg0) (ix2 n k)) (m (hLoc d main_arg1) (ix2 n k)) (m (hLoc d main_arg2) (ix2 n k))
          (kapD m d (kIx (m (hLoc d main_arg3) (ix1 n)))) := by
  have hk := k.isLt
  unfold resD
  refine (shapeCast_apply _ _ _ (ix3 s ⟨(3 * n.val + k.val) / 384, by omega⟩ ⟨(3 * n.val + k.val) % 384, Nat.mod_lt _ (by decide)⟩) ?_).trans ?_
  · rw [Shape.rowMajor_val_three, Shape.rowMajor_val_three]
    show (s.val * 16384 + (3 * n.val + k.val) / 384) * 384 + (3 * n.val + k.val) % 384 = (s.val * 2097152 + n.val) * 3 + k.val
    omega
  · unfold oD
    refine (tcArr_at _ _ _ _ s _ _).trans ?_
    have ha : aD (F := Ideal) m d (ix2 ⟨(3 * n.val + k.val) / 384, by omega⟩ ⟨(3 * n.val + k.val) % 384 / 3, by omega⟩)
        = kapD m d (kIx (m (hLoc d main_arg3) (ix1 n))) :=
      (fold_amp _ n k _).trans (congrArg (fun w => kapD m d (kIx w)) (word_at _ n _))
    exact congr (congr (congr (congrArg (elt s) (fold_at _ n k _)) (fold_at _ n k _)) (fold_at _ n k _)) ha

end Cert.Proof.KI
-- ==== Proof.RefValue.lean ====
/- What the reference's result array holds over the extended reals: at every element the map's scalar mathematics of that element's inputs. -/
module

public import proofs.«01_k».proof.Proof.Take
public import proofs.«01_k».proof.Proof.Value
public import proofs.«01_k».proof.Proof.Gen.ReferenceIdeal.Run

@[expose] public section

set_option maxRecDepth 16384

noncomputable section

namespace Cert.Proof.RefValue

open Cert.ReferenceIdeal Cert.ReferenceIdeal.Gen Cert.ReferenceIdeal.Value
open Idealize.ShloMosaic Cert.Proof.Math
open Idealize.ShloMosaic.Pipeline

variable (V : Valuation τ sig (Elt Ideal))

/-- The three inputs, the words and the table. -/
abbrev xV : S2097152x3.Idx → EReal := V (Proc.devRef .tc main_arg0)
/-- The second input. -/
abbrev cV : S2097152x3.Idx → EReal := V (Proc.devRef .tc main_arg1)
/-- The third input. -/
abbrev sV : S2097152x3.Idx → EReal := V (Proc.devRef .tc main_arg2)
/-- The words. -/
abbrev tV : S2097152.Idx → BitVec 32 := V (Proc.devRef .tc main_arg3)
/-- The table as a vector. -/
abbrev kV : S100.Idx → EReal := shapeCast S100 (V (Proc.devRef .tc main_arg4) : S100x1.Idx → EReal) shapeCasts_S100x1_S100

/-- A vector as a column, at an element. -/
theorem column_at (a : S2097152.Idx → EReal) (n : Fin 2097152) (h : S2097152.ShapeCasts S2097152x1) :
    shapeCast S2097152x1 a h (ix2 n 0) = a (ix1 n) := by
  refine shapeCast_apply a h _ _ ?_
  rw [Shape.rowMajor_val_two, Shape.rowMajor_val_one]
  show n.val = n.val * 1 + 0
  omega

/-- The amplitudes' column, for indices in range. -/
theorem ampA (ht : ∀ i, (tV V i).toNat < 100) :
    (res_main_v58 V : S2097152x1.Idx → EReal) = shapeCast S2097152x1 (fun j => kV V (KI.kIx (tV V j))) shapeCasts_S2097152_S2097152x1 := by
  rw [← Take.take_eq (F := Ideal) (tV V) ht (kV V)]
  unfold res_main_v58 res_main_call0_v5 tV kV
  generalize V (Proc.devRef .tc main_arg3) = t
  generalize V (Proc.devRef .tc main_arg4) = k
  with_reducible_and_instances rfl

/-- The amplitudes: each the table's entry its word names. -/
theorem amp_at (ht : ∀ i, (tV V i).toNat < 100) (n : Fin 2097152) :
    (res_main_v58 V : S2097152x1.Idx → EReal) (ix2 n 0) = kV V (KI.kIx (tV V (ix1 n))) := by
  rw [ampA V ht, column_at]

/-- An array of the inputs' shape. -/
abbrev A3 := S2097152x3.Idx → EReal

/-- A literal spread over an array. -/
abbrev lits (b : BitVec 32) : A3 := broadcastInDim S2097152x3 ![] bcast_S_S2097152x3 (constant (F := Ideal) S_ .f32 b)

/-- The sum and the product of two arrays. -/
abbrev plus (x y : A3) : A3 := addf (F := Ideal) (φ := .f32) x y
/-- The product of two arrays. -/
abbrev times (x y : A3) : A3 := mulf (F := Ideal) (φ := .f32) x y

/-- A polynomial of arrays from its leading coefficient down, by Horner's scheme. -/
def hornerA (z c : A3) : List (BitVec 32) → A3
  | [] => c
  | k :: ks => hornerA z (plus (times c z) (lits k)) ks

/-- It is the scalar polynomial at each element. -/
theorem hornerA_at (z : A3) (ks : List (BitVec 32)) (c : A3) (p : S2097152x3.Idx) : hornerA z c ks p = horner (z p) (c p) (ks.map lit) := by
  induction ks generalizing c with
  | nil => rfl
  | cons k ks ih => exact ih _

/-- The reference's arrays: the scaled argument, its square, the amplitudes' column and the three results' parts. -/
abbrev v3 : A3 := res_main_v3 V
/-- The scaled argument's square. -/
abbrev v4 : A3 := res_main_v4 V
/-- The amplitudes' column. -/
abbrev v58 : S2097152x1.Idx → EReal := res_main_v58 V
/-- The cosine's result. -/
abbrev v61 : A3 := res_main_v61 V
/-- The sine's result. -/
abbrev v64 : A3 := res_main_v64 V
/-- The smaller size over the larger. -/
abbrev v71 : A3 := res_main_v71 V
/-- Its square. -/
abbrev v72 : A3 := res_main_v72 V
/-- The arctangent of the ratio. -/
abbrev v86 : A3 := res_main_v86 V
/-- The angle in the quadrant. -/
abbrev v90 : A3 := res_main_v90 V
/-- The angle in the half plane. -/
abbrev v95 : A3 := res_main_v95 V

/-- The amplitudes spread along the rows. -/
abbrev amps : A3 := broadcastInDim S2097152x3 ![0, 1] bcast_S2097152x1_S2097152x3_0_1 (v58 V)

/-- The amplitudes spread along the rows, at an element. -/
theorem amps_at (n : Fin 2097152) (k : Fin 3) : amps V (ix2 n k) = v58 V (ix2 n 0) :=
  congrArg (v58 V) (funext fun a => by fin_cases a <;> rfl)

/-- The scaled argument's array. -/
theorem argA : v3 V = times (lits 0x40C90FDB#32) (subf (F := Ideal) (φ := .f32) (xV V) (lits 0x3F000000#32)) := rfl

/-- The cosine's array. -/
theorem cosA : v61 V = plus (times (amps V) (hornerA (v4 V) (lits 0x29573F9F#32)
    [0xAD49CBA5#32, 0x310F76C7#32, 0xB493F27E#32, 0x37D00D01#32, 0xBAB60B61#32, 0x3D2AAAAB#32, 0xBF000000#32, 0x3F800000#32])) (cV V) := by
  unfold v61 res_main_v61
  simp only [hornerA]

/-- The sine's array. -/
theorem sinA : v64 V = plus (times (amps V) (times (v3 V) (hornerA (v4 V) (lits 0x274A963C#32)
    [0xAB573F9F#32, 0x2F309231#32, 0xB2D7322B#32, 0x3638EF1D#32, 0xB9500D01#32, 0x3C088889#32, 0xBE2AAAAB#32, 0x3F800000#32]))) (sV V) := by
  unfold v64 res_main_v64
  simp only [hornerA]

/-- The arctangent's array. -/
theorem atanA : v86 V = times (v71 V) (hornerA (v72 V) (lits 0x3CAAAE5F#32) [0xBDAE5A36#32, 0x3E3876E2#32, 0xBEA91D04#32, 0x3F7FF738#32]) := by
  unfold v86 res_main_v86
  simp only [hornerA]

/-- The scaled argument at an element. -/
theorem arg_at (p : S2097152x3.Idx) : v3 V p = arg (xV V p) := by
  rw [argA]; generalize xV V = X; rfl

/-- Its square at an element. -/
theorem sq_at (p : S2097152x3.Idx) : v4 V p = arg (xV V p) * arg (xV V p) := by
  rw [← arg_at]; unfold v4 v3 res_main_v4; rfl

/-- A sum of a product and an array, at an element. -/
theorem mad_at (x y z : A3) (p : S2097152x3.Idx) : plus (times x y) z p = x p * y p + z p := rfl

/-- A product of arrays at an element. -/
theorem times_at (x y : A3) (p : S2097152x3.Idx) : times x y p = x p * y p := rfl

/-- The cosine's result at an element. -/
theorem cos_at (n : Fin 2097152) (k : Fin 3) :
    v61 V (ix2 n k) = cosG (xV V (ix2 n k)) (cV V (ix2 n k)) (v58 V (ix2 n 0)) := by
  rw [cosA, mad_at, hornerA_at, sq_at, amps_at]; rfl

/-- The sine's result at an element. -/
theorem sin_at (n : Fin 2097152) (k : Fin 3) :
    v64 V (ix2 n k) = sinG (xV V (ix2 n k)) (sV V (ix2 n k)) (v58 V (ix2 n 0)) := by
  rw [sinA, mad_at, times_at, hornerA_at, sq_at, arg_at, amps_at]; rfl

/-- The size of an array's elements. -/
abbrev sizes (x : A3) : A3 := Host.absf (F := Ideal) (φ := .f32) x

/-- Two arrays chosen between by a comparison of two others. -/
abbrev choose (o : CmpFPredicate) (x y a b : A3) : A3 := select (cmpf (F := Ideal) (φ := .f32) o x y) a b

/-- A literal less an array. -/
abbrev less (b : BitVec 32) (x : A3) : A3 := subf (F := Ideal) (φ := .f32) (lits b) x

/-- The size at an element. -/
theorem sizes_at (x : A3) (p : S2097152x3.Idx) : sizes x p = size (x p) := rfl

/-- The choice at an element. -/
theorem choose_at (o : CmpFPredicate) (x y a b : A3) (p : S2097152x3.Idx) :
    choose o x y a b p = Scalar.select (FloatOps.cmpf (F := Ideal) (φ := .f32) o (x p) (y p)) (a p) (b p) := rfl

/-- A literal less an array, at an element. -/
theorem less_at (b : BitVec 32) (x : A3) (p : S2097152x3.Idx) : less b x p = lit b - x p := rfl

/-- A literal at an element. -/
theorem lits_at (b : BitVec 32) (p : S2097152x3.Idx) : lits b p = lit b := rfl

/-- The smaller size over the larger, of arrays. -/
abbrev ratios (c s : A3) : A3 :=
  Host.divf (F := Ideal) (φ := .f32) (minimumf (F := Ideal) (φ := .f32) c s) (maximumf (F := Ideal) (φ := .f32) (maximumf (F := Ideal) (φ := .f32) c s) (lits 0x02081CEA#32))

/-- It at an element. -/
theorem ratios_at (c s : A3) (p : S2097152x3.Idx) : ratios c s p = Ideal.div (min (c p) (s p)) (max (max (c p) (s p)) (lit 0x02081CEA#32)) := rfl

/-- The ratio's array. -/
theorem ratioA : v71 V = ratios (sizes (v61 V)) (sizes (v64 V)) := by
  unfold v71 res_main_v71 res_main_v65 res_main_v66; with_reducible rfl

/-- The ratio's square. -/
theorem sqA : v72 V = times (v71 V) (v71 V) := by
  unfold v72 res_main_v72; with_reducible rfl

/-- The quadrant's array. -/
theorem quarterA : v90 V = choose .ogt (sizes (v64 V)) (sizes (v61 V)) (less 0x3FC90FDB#32 (v86 V)) (v86 V) := by
  unfold v90 res_main_v90 res_main_v65 res_main_v66; with_reducible rfl

/-- The half plane's array. -/
theorem halfA : v95 V = choose .olt (v61 V) (lits 0x00000000#32) (less 0x40490FDB#32 (v90 V)) (v90 V) := by
  unfold v95 res_main_v95; with_reducible rfl

/-- The ratio at an element. -/
theorem ratio_at (p : S2097152x3.Idx) : v71 V p = ratio (v61 V p) (v64 V p) := by
  rw [ratioA, ratios_at, sizes_at, sizes_at]; unfold ratio; with_reducible rfl

/-- The arctangent at an element. -/
theorem atan_at (p : S2097152x3.Idx) : v86 V p = atanP (ratio (v61 V p) (v64 V p)) := by
  rw [atanA, times_at, hornerA_at, sqA, times_at, ratio_at, lits_at]; unfold atanP; simp only [List.map_cons, List.map_nil]

/-- The quadrant's angle at an element. -/
theorem quarter_at (p : S2097152x3.Idx) : v90 V p = quarter (v61 V p) (v64 V p) := by
  rw [quarterA, choose_at, less_at, sizes_at, sizes_at, atan_at]; unfold quarter; with_reducible rfl

/-- The half plane's angle at an element. -/
theorem half_at (p : S2097152x3.Idx) : v95 V p = half (v61 V p) (v64 V p) := by
  rw [halfA, choose_at, less_at, lits_at, quarter_at]; unfold half; with_reducible rfl

/-- The next value of arrays of sines and angles. -/
abbrev nexts (s h : A3) : A3 :=
  plus (Host.divf (F := Ideal) (φ := .f32) (choose .olt s (lits 0x00000000#32) (Host.negf (F := Ideal) (φ := .f32) h) h) (lits 0x40C90FDB#32)) (lits 0x3F000000#32)

/-- It at an element. -/
theorem nexts_at (s h : A3) (p : S2097152x3.Idx) : nexts s h p
    = Ideal.div (Scalar.select (FloatOps.cmpf (F := Ideal) (φ := .f32) .olt (s p) (lit 0x00000000#32)) (-h p) (h p)) (lit 0x40C90FDB#32) + lit 0x3F000000#32 := rfl

/-- The next value's array, as the reference composes it. -/
abbrev nextA : A3 := nexts (v64 V) (v95 V)

/-- The next value at an element. -/
theorem next_at (n : Fin 2097152) (k : Fin 3) :
    nextA V (ix2 n k) = next (xV V (ix2 n k)) (cV V (ix2 n k)) (sV V (ix2 n k)) (v58 V (ix2 n 0)) := by
  unfold nextA
  rw [nexts_at, half_at, cos_at, sin_at]; unfold next angle; with_reducible rfl

/-- One slab read at an element. -/
theorem slab_at (x : S2097152x3.Idx → EReal) (n : Fin 2097152) (k : Fin 3) :
    broadcastInDim S1x2097152x3 ![1, 2] bcast_S2097152x3_S1x2097152x3_1_2 x (ix3 0 n k) = x (ix2 n k) :=
  congrArg x (funext fun a => by fin_cases a <;> rfl)

/-- Off the stacking axis, the slab's element has the stack's coordinates. -/
theorem off_axis (s : Fin 3) (n : Fin 2097152) (k : Fin 3) (b : Fin 3) (hb : b ≠ 0) :
    ((ix3 0 n k : S1x2097152x3.Idx) b).val = ((ix3 s n k : S3x2097152x3.Idx) b).val := by
  match b with
  | 0 => exact absurd rfl hb
  | 1 => rfl
  | 2 => rfl

/-- The three slabs of a stack. -/
abbrev pieces (x y z : S2097152x3.Idx → EReal) : List ((s : Shape) × (s.Idx → EReal)) :=
  [⟨S1x2097152x3, broadcastInDim S1x2097152x3 ![1, 2] bcast_S2097152x3_S1x2097152x3_1_2 x⟩, ⟨S1x2097152x3, broadcastInDim S1x2097152x3 ![1, 2] bcast_S2097152x3_S1x2097152x3_1_2 y⟩, ⟨S1x2097152x3, broadcastInDim S1x2097152x3 ![1, 2] bcast_S2097152x3_S1x2097152x3_1_2 z⟩]

/-- The stack of three arrays at an element: the slab the first coordinate names. -/
theorem stack_at (x y z : S2097152x3.Idx → EReal) (s : Fin 3) (n : Fin 2097152) (k : Fin 3) :
    concatenate S3x2097152x3 0 (pieces x y z) concatenates_S1x2097152x3_S1x2097152x3_S1x2097152x3_S3x2097152x3_d0 (ix3 s n k)
      = if s.val = 0 then x (ix2 n k) else if s.val = 1 then y (ix2 n k) else z (ix2 n k) := by
  rw [← slab_at x, ← slab_at y, ← slab_at z]
  match s with
  | 0 => exact concatenate_apply_piece 0 (pieces x y z) _ (ix3 (0 : Fin 3) n k) 0 (show 0 < 3 by decide) S1x2097152x3 (broadcastInDim S1x2097152x3 ![1, 2] bcast_S2097152x3_S1x2097152x3_1_2 x) rfl rfl 0 rfl (ix3 0 n k) (fun b hb => off_axis _ n k b hb) rfl
  | 1 => exact concatenate_apply_piece 0 (pieces x y z) _ (ix3 (1 : Fin 3) n k) 1 (show 1 < 3 by decide) S1x2097152x3 (broadcastInDim S1x2097152x3 ![1, 2] bcast_S2097152x3_S1x2097152x3_1_2 y) rfl rfl 1 rfl (ix3 0 n k) (fun b hb => off_axis _ n k b hb) rfl
  | 2 => exact concatenate_apply_piece 0 (pieces x y z) _ (ix3 (2 : Fin 3) n k) 2 (show 2 < 3 by decide) S1x2097152x3 (broadcastInDim S1x2097152x3 ![1, 2] bcast_S2097152x3_S1x2097152x3_1_2 z) rfl rfl 2 rfl (ix3 0 n k) (fun b hb => off_axis _ n k b hb) rfl

/-- The reference's result, as it composes it. -/
abbrev resV : S3x2097152x3.Idx → EReal :=
  concatenate S3x2097152x3 0 (pieces (v61 V) (v64 V) (nextA V)) concatenates_S1x2097152x3_S1x2097152x3_S1x2097152x3_S3x2097152x3_d0

/-- The reference's result at an element. -/
theorem resV_at (ht : ∀ i, (tV V i).toNat < 100) (s : Fin 3) (n : Fin 2097152) (k : Fin 3) :
    resV V (ix3 s n k) = KI.elt s (xV V (ix2 n k)) (cV V (ix2 n k)) (sV V (ix2 n k)) (kV V (KI.kIx (tV V (ix1 n)))) := by
  unfold KI.elt
  rw [← amp_at V ht n, ← next_at, ← cos_at, ← sin_at]
  exact stack_at _ _ _ s n k

/-- The two results are one array, where the arguments agree and the indices are in range. -/
theorem result_eq (m : (ℓ : Loc Cert.KernelIdeal.nD Cert.KernelIdeal.τ Cert.KernelIdeal.sig) → Buf (Elt Ideal) ℓ) (d : Dev Cert.KernelIdeal.nD)
    (ht : ∀ i, (tV V i).toNat < 100)
    (h0 : xV V = m (KI.hLoc d Cert.KernelIdeal.main_arg0)) (h1 : cV V = m (KI.hLoc d Cert.KernelIdeal.main_arg1))
    (h2 : sV V = m (KI.hLoc d Cert.KernelIdeal.main_arg2)) (h3 : tV V = m (KI.hLoc d Cert.KernelIdeal.main_arg3))
    (h4 : (V (Proc.devRef .tc main_arg4) : S100x1.Idx → EReal) = m (KI.hLoc d Cert.KernelIdeal.main_arg4)) :
    resV V = KI.resD (F := Ideal) m d := by
  have hk : kV V = KI.kapD (F := Ideal) m d := congrArg (fun x : S100x1.Idx → EReal => shapeCast S100 x shapeCasts_S100x1_S100) h4
  have key (s : Fin 3) (n : Fin 2097152) (k : Fin 3) : resV V (ix3 s n k) = KI.resD (F := Ideal) m d (ix3 s n k) := by
    rw [resV_at V ht, KI.resD_at, h0, h1, h2, h3, hk]
  funext y
  have hy : y = ix3 (y 0) (y 1) (y 2) := funext fun a => match a with | 0 => rfl | 1 => rfl | 2 => rfl
  rw [hy]
  exact key _ _ _

end Cert.Proof.RefValue
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_in_range
public import proofs.«01_k».proof.Proof.Launch
public import proofs.«01_k».proof.Proof.LaunchP
public import proofs.«01_k».proof.Proof.Take
public import proofs.«01_k».proof.Proof.RefValue
public import Idealize.ShloMosaic.Adequacy
public import Idealize.ShloMosaic.Init

@[expose] public section

noncomputable section

namespace Cert.Proof

open Idealize.ShloMosaic Idealize.SL.Sem

/-- The kernel, over bits: its arguments as they were, every counter at zero. -/
theorem frame_kernel : Cert.quiescent_Kernel := fun m ρ hpre =>
  (θ_run Cert.Kernel.defs _ _).mono (fun _ h => ⟨fun c => (h.1 c).1, h.2⟩)
    (KP.run_main (F := Bits) m ρ fun d i => Take.of_pre _ _ _ _ _ (hpre d) i)

/-- The kernel, over the reals: its arguments as they were, every counter at zero. -/
theorem frame_ideal : Cert.quiescent_KernelIdeal := fun m ρ hpre =>
  (θ_run Cert.KernelIdeal.defs _ _).mono (fun _ h => ⟨fun c => (h.1 c).1, h.2⟩)
    (KI.run_main (F := Ideal) m ρ fun d i => Take.of_pre _ _ _ _ _ (hpre d) i)

/-- The reference ends with its arguments as they were and, having no semaphore, every counter at zero. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The scale's literal stands for the reciprocal of the number the reference divides by. -/
theorem preserves : Cert.preserves_Kernel_KernelIdeal :=
  IdealRules.named_const.statement Cert.KernelIdeal.κ "inv_two_pi" .f32 0x3E22F983#32 _ (by unfold Cert.KernelIdeal.κ; rfl)

/-- The kernel's result, over the reals, is the reference's. -/
theorem algebraic : Cert.algebraic_KernelIdeal_ReferenceIdeal := by
  intro m g m' g' hpre hm
  have ht (c : Dev Cert.KernelIdeal.nD) (i : Cert.KernelIdeal.S2097152.Idx) : (m (KI.hLoc c Cert.KernelIdeal.main_arg3) i : BitVec 32).toNat < 100 :=
    Take.of_pre _ _ _ _ _ (hpre c) i
  refine ⟨fun c => KI.resD m c, ?_, ?_⟩
  · exact (θ_run Cert.KernelIdeal.defs _ _).mono (fun _ h c => ⟨(h.1 c).2, (h.1 c).1⟩) (KI.run_main (F := Ideal) m g ht)
  · refine (θ_run Cert.ReferenceIdeal.defs _ _).mono (fun _ h c => ⟨(h c).1.trans ?_, (h c).2⟩) (Cert.ReferenceIdeal.Value.run (F := Ideal) m' g')
    have h3 := (hm c).2.2.2.1
    exact RefValue.result_eq (StableHlo.launchContents m' c) m c (fun i => (congrArg (fun t : Cert.KernelIdeal.S2097152.Idx → BitVec 32 => (t i).toNat) h3).trans_lt (ht c i))
      (hm c).1 (hm c).2.1 (hm c).2.2.1 h3 (hm c).2.2.2.2

/-- Everything claimed. -/
theorem claim : Cert.Claim := ⟨Cert.Kernel.Gen.facts, Cert.KernelIdeal.Gen.facts, Cert.ReferenceIdeal.Gen.facts, Cert.Pre_in_range.Gen.facts,
  frame_kernel, frame_ideal, frame_reference, fun m ρ _ => frame_reference m ρ trivial, preserves, algebraic⟩

end Cert.Proof

end
